-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labelled [hPre_labelled : Cert.Pre_labelled.Facts] (m : (ℓ : Loc Cert.KernelIdeal.nD Cert.KernelIdeal.τ Cert.KernelIdeal.sig) → Buf (Elt Ideal) ℓ) : Prop :=
  ∀ c : Dev Cert.KernelIdeal.nD,
    (Cert.Pre_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labelled [hPre_labelled : Cert.Pre_labelled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_labelled [hKernelIdeal : Cert.KernelIdeal.Facts] [hPre_labelled : Cert.Pre_labelled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labelled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labelled [hReferenceIdeal : Cert.ReferenceIdeal.Facts] [hPre_labelled : Cert.Pre_labelled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labelled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_labelled [hKernelIdeal : Cert.KernelIdeal.Facts] [hReferenceIdeal : Cert.ReferenceIdeal.Facts] [hPre_labelled : Cert.Pre_labelled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labelled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labelled : Cert.Pre_labelled.Facts),
    quiescent_Kernel (hKernel := hKernel)
    ∧ quiescent_KernelIdeal (hKernelIdeal := hKernelIdeal)
    ∧ quiescent_KernelIdeal_pre_labelled (hKernelIdeal := hKernelIdeal) (hPre_labelled := hPre_labelled)
    ∧ quiescent_ReferenceIdeal (hReferenceIdeal := hReferenceIdeal)
    ∧ quiescent_ReferenceIdeal_pre_labelled (hReferenceIdeal := hReferenceIdeal) (hPre_labelled := hPre_labelled)
    ∧ preserves_Kernel_KernelIdeal
    ∧ algebraic_KernelIdeal_ReferenceIdeal_pre_labelled (hKernelIdeal := hKernelIdeal) (hReferenceIdeal := hReferenceIdeal) (hPre_labelled := hPre_labelled)
-- ==== Pre_labelled.lean ====
abbrev S128x40x52x52 : Shape := ⟨4, ![128, 40, 52, 52]⟩
abbrev S128x13520x13 : Shape := ⟨3, ![128, 13520, 13]⟩
abbrev S128x13520x1 : Shape := ⟨3, ![128, 13520, 1]⟩
abbrev S128x13520 : Shape := ⟨2, ![128, 13520]⟩
abbrev S_ : Shape := ⟨0, ![]⟩

class Facts : Prop where
  slices_S128x13520x13_S128x13520x1_0_0_0 : S128x13520x13.Slices ![0, 0, 0] S128x13520x1
  shapeCasts_S128x13520x1_S128x13520 : S128x13520x1.ShapeCasts S128x13520
  slices_S128x13520x13_S128x13520x1_0_0_8 : S128x13520x13.Slices ![0, 0, 8] S128x13520x1
  bcast_S_S128x13520 : S_.BroadcastsInDim S128x13520 (![] : Fin 0 → Fin S128x13520.rank)

variable [Facts]

def fn {F : FTy → Type} [FloatOps F] (main_arg0 : FVec F S128x40x52x52 .f32) (main_arg1 : FVec F S128x13520x13 .f32) : IVec S128x13520 1 :=
  let main_v0 : FVec F S128x13520x1 .f32 := (extractStridedSlice S128x13520x1 ![0, 0, 0] · slices_S128x13520x13_S128x13520x1_0_0_0) main_arg1
  let main_v1 : FVec F S128x13520 .f32 := shapeCast S128x13520 main_v0 shapeCasts_S128x13520x1_S128x13520
  let main_v2 : FVec F S128x13520x1 .f32 := (extractStridedSlice S128x13520x1 ![0, 0, 8] · slices_S128x13520x13_S128x13520x1_0_0_8) main_arg1
  let main_v3 : FVec F S128x13520 .f32 := shapeCast S128x13520 main_v2 shapeCasts_S128x13520x1_S128x13520
  let main_cst : FVec F S_ .f32 := constant S_ .f32 0x3F800000#32
  let main_v4 : FVec F S128x13520 .f32 := broadcastInDim S128x13520 ![] bcast_S_S128x13520 main_cst
  let main_v5 : IVec S128x13520 1 := cmpf .oeq main_v1 main_v4
  let main_cst_0 : FVec F S_ .f32 := constant S_ .f32 0x00000000#32
  let main_v6 : FVec F S128x13520 .f32 := broadcastInDim S128x13520 ![] bcast_S_S128x13520 main_cst_0
  let main_v7 : IVec S128x13520 1 := cmpf .oeq main_v1 main_v6
  let main_v8 : IVec S128x13520 1 := ori main_v5 main_v7
  let main_cst_1 : FVec F S_ .f32 := constant S_ .f32 0xBF000000#32
  let main_v9 : FVec F S128x13520 .f32 := broadcastInDim S128x13520 ![] bcast_S_S128x13520 main_cst_1
  let main_v10 : IVec S128x13520 1 := cmpf .ole main_v1 main_v9
  let main_v11 : IVec S128x13520 1 := ori main_v8 main_v10
  let main_cst_2 : FVec F S_ .f32 := constant S_ .f32 0x00000000#32
  let main_v12 : FVec F S128x13520 .f32 := broadcastInDim S128x13520 ![] bcast_S_S128x13520 main_cst_2
  let main_v13 : IVec S128x13520 1 := cmpf .oge main_v3 main_v12
  let main_v14 : IVec S128x13520 1 := andi main_v11 main_v13
  let main_cst_3 : FVec F S_ .f32 := constant S_ .f32 0x7F800000#32
  let main_v15 : FVec F S128x13520 .f32 := broadcastInDim S128x13520 ![] bcast_S_S128x13520 main_cst_3
  let main_v16 : IVec S128x13520 1 := cmpf .olt main_v3 main_v15
  let main_v17 : IVec S128x13520 1 := andi main_v14 main_v16
  main_v17
-- ==== Kernel.lean ====
abbrev S128x40x52x52 : Shape := ⟨4, ![128, 40, 52, 52]⟩
abbrev S128x13520x13 : Shape := ⟨3, ![128, 13520, 13]⟩
abbrev S128x8x5x2704 : Shape := ⟨4, ![128, 8, 5, 2704]⟩
abbrev S128x8x2704x5 : Shape := ⟨4, ![128, 8, 2704, 5]⟩
abbrev S128x8x13520 : Shape := ⟨3, ![128, 8, 13520]⟩
abbrev S128x13x13520 : Shape := ⟨3, ![128, 13, 13520]⟩
abbrev S1 : Shape := ⟨1, ![1]⟩
abbrev S4x8x13520 : Shape := ⟨3, ![4, 8, 13520]⟩
abbrev S4x13x13520 : Shape := ⟨3, ![4, 13, 13520]⟩
abbrev S8 : Shape := ⟨1, ![8]⟩
abbrev S4x1x13520 : Shape := ⟨3, ![4, 1, 13520]⟩
abbrev S4x13520 : Shape := ⟨2, ![4, 13520]⟩
abbrev S1x4x13520 : Shape := ⟨3, ![1, 4, 13520]⟩
abbrev S1x1x1 : Shape := ⟨3, ![1, 1, 1]⟩

abbrev nBuf : Space → Nat
  | .hbm => 7
  | .vmem => 4
  | .smem => 2
  | _ => 0

abbrev bufTy : (tb : Table) → Fin (tcTables nBuf tb) → BufTy
  | .hbm, ⟨0, _⟩ => ⟨S128x40x52x52, .f32⟩
  | .hbm, ⟨1, _⟩ => ⟨S128x13520x13, .f32⟩
  | .hbm, ⟨2, _⟩ => ⟨S128x8x5x2704, .f32⟩
  | .hbm, ⟨3, _⟩ => ⟨S128x8x2704x5, .f32⟩
  | .hbm, ⟨4, _⟩ => ⟨S128x8x13520, .f32⟩
  | .hbm, ⟨5, _⟩ => ⟨S128x13x13520, .f32⟩
  | .hbm, ⟨6, _⟩ => ⟨S1, .f32⟩
  | .local _ .vmem, ⟨0, _⟩ => ⟨S4x8x13520, .f32⟩
  | .local _ .vmem, ⟨1, _⟩ => ⟨S4x8x13520, .f32⟩
  | .local _ .vmem, ⟨2, _⟩ => ⟨S4x13x13520, .f32⟩
  | .local _ .vmem, ⟨3, _⟩ => ⟨S4x13x13520, .f32⟩
  | .local _ .smem, ⟨0, _⟩ => ⟨S1, .f32⟩
  | .local _ .smem, ⟨1, _⟩ => ⟨S8, .f32⟩
  | _, _ => ⟨S128x40x52x52, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v173 : BitVec 1 := Scalar.cmpi .eq arg0 c31_i32
  let v174 : BitVec 32 := Scalar.extui v173
  let c0_i32_77 : BitVec 32 := 0#32
  let v175 : BitVec 1 := Scalar.cmpi .ne v174 c0_i32_77
  v175

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S4x8x13520 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x13x13520 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S128x40x52x52 : Shape := ⟨4, ![128, 40, 52, 52]⟩
abbrev S128x13520x13 : Shape := ⟨3, ![128, 13520, 13]⟩
abbrev S128x8x5x2704 : Shape := ⟨4, ![128, 8, 5, 2704]⟩
abbrev S128x2704x5x8 : Shape := ⟨4, ![128, 2704, 5, 8]⟩
abbrev S128x13520x8 : Shape := ⟨3, ![128, 13520, 8]⟩
abbrev S128x13520x1 : Shape := ⟨3, ![128, 13520, 1]⟩
abbrev S128x13520 : Shape := ⟨2, ![128, 13520]⟩
abbrev S_ : Shape := ⟨0, ![]⟩
abbrev S128 : Shape := ⟨1, ![128]⟩
abbrev S128x13520x3 : Shape := ⟨3, ![128, 13520, 3]⟩
abbrev S128x13520x2 : Shape := ⟨3, ![128, 13520, 2]⟩
abbrev S1 : Shape := ⟨1, ![1]⟩

abbrev nBuf : Space → Nat
  | .hbm => 110
  | .vmem => 0
  | .smem => 0
  | _ => 0

abbrev bufTy : (tb : Table) → Fin (tcTables nBuf tb) → BufTy
  | .hbm, ⟨0, _⟩ => ⟨S128x40x52x52, .f32⟩
  | .hbm, ⟨1, _⟩ => ⟨S128x13520x13, .f32⟩
  | .hbm, ⟨2, _⟩ => ⟨S128x8x5x2704, .f32⟩
  | .hbm, ⟨3, _⟩ => ⟨S128x2704x5x8, .f32⟩
  | .hbm, ⟨4, _⟩ => ⟨S128x13520x8, .f32⟩
  | .hbm, ⟨5, _⟩ => ⟨S128x13520x1, .f32⟩
  | .hbm, ⟨6, _⟩ => ⟨S128x13520, .f32⟩
  | .hbm, ⟨7, _⟩ => ⟨S128x13520, .f32⟩
  | .hbm, ⟨8, _⟩ => ⟨S128x13520, .f32⟩
  | .hbm, ⟨9, _⟩ => ⟨S_, .f32⟩
  | .hbm, ⟨10, _⟩ => ⟨S128x13520, .f32⟩
  | .hbm, ⟨11, _⟩ => ⟨S128x13520, .f32⟩
  | .hbm, ⟨12, _⟩ => ⟨S_, .f32⟩
  | .hbm, ⟨13, _⟩ => ⟨S128x13520, .f32⟩
  | .hbm, ⟨14, _⟩ => ⟨S128x13520, .f32⟩
  | .hbm, ⟨15, _⟩ => ⟨S128x13520x1, .f32⟩
  | .hbm, ⟨16, _⟩ => ⟨S128x13520, .f32⟩
  | .hbm, ⟨17, _⟩ => ⟨S128x13520x1, .f32⟩
  | .hbm, ⟨18, _⟩ => ⟨S128x13520, .f32⟩
  | .hbm, ⟨19, _⟩ => ⟨S_, .f32⟩
  | .hbm, ⟨20, _⟩ => ⟨S128x13520, .f32⟩
  | .hbm, ⟨21, _⟩ => ⟨S128x13520, .i1⟩
  | .hbm, ⟨22, _⟩ => ⟨S128x13520, .f32⟩
  | .hbm, ⟨23, _⟩ => ⟨S_, .f32⟩
  | .hbm, ⟨24, _⟩ => ⟨S128x13520, .f32⟩
  | .hbm, ⟨25, _⟩ => ⟨S128x13520, .i1⟩
  | .hbm, ⟨26, _⟩ => ⟨S128x13520, .f32⟩
  | .hbm, ⟨27, _⟩ => ⟨S128x13520, .f32⟩
  | .hbm, ⟨28, _⟩ => ⟨S128x13520, .f32⟩
  | .hbm, ⟨29, _⟩ => ⟨S128x13520, .f32⟩
  | .hbm, ⟨30, _⟩ => ⟨S_, .f32⟩
  | .hbm, ⟨31, _⟩ => ⟨S128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S128x13520, .f32⟩
  | .hbm, ⟨39, _⟩ => ⟨S_, .f32⟩
  | .hbm, ⟨40, _⟩ => ⟨S128, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S128x13520x3, .f32⟩
  | .hbm, ⟨48, _⟩ => ⟨S128x13520x3, .f32⟩
  | .hbm, ⟨49, _⟩ => ⟨S_, .f32⟩
  | .hbm, ⟨50, _⟩ => ⟨S128x13520x3, .f32⟩
  | .hbm, ⟨51, _⟩ => ⟨S128x13520x3, .f32⟩
  | .hbm, ⟨52, _⟩ => ⟨S128x13520x3, .f32⟩
  | .hbm, ⟨53, _⟩ => ⟨S128x13520x3, .f32⟩
  | .hbm, ⟨54, _⟩ => ⟨S128x13520x3, .f32⟩
  | .hbm, ⟨55, _⟩ => ⟨S128x13520x3, .f32⟩
  | .hbm, ⟨56, _⟩ => ⟨S128x13520x3, .f32⟩
  | .hbm, ⟨57, _⟩ => ⟨S128x13520x3, .f32⟩
  | .hbm, ⟨58, _⟩ => ⟨S128x13520x3, .f32⟩
  | .hbm, ⟨59, _⟩ => ⟨S_, .f32⟩
  | .hbm, ⟨60, _⟩ => ⟨S128x13520, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S128x13520, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S128x13520x2, .f32⟩
  | .hbm, ⟨70, _⟩ => ⟨S128x13520x2, .f32⟩
  | .hbm, ⟨71, _⟩ => ⟨S128x13520x2, .f32⟩
  | .hbm, ⟨72, _⟩ => ⟨S128x13520x2, .f32⟩
  | .hbm, ⟨73, _⟩ => ⟨S_, .f32⟩
  | .hbm, ⟨74, _⟩ => ⟨S128x13520x2, .f32⟩
  | .hbm, ⟨75, _⟩ => ⟨S128x13520x2, .f32⟩
  | .hbm, ⟨76, _⟩ => ⟨S128x13520x2, .f32⟩
  | .hbm, ⟨77, _⟩ => ⟨S128x13520x2, .f32⟩
  | .hbm, ⟨78, _⟩ => ⟨S128x13520x2, .f32⟩
  | .hbm, ⟨79, _⟩ => ⟨S128x13520x2, .f32⟩
  | .hbm, ⟨80, _⟩ => ⟨S128x13520x2, .f32⟩
  | .hbm, ⟨81, _⟩ => ⟨S128x13520x2, .f32⟩
  | .hbm, ⟨82, _⟩ => ⟨S128x13520x2, .f32⟩
  | .hbm, ⟨83, _⟩ => ⟨S_, .f32⟩
  | .hbm, ⟨84, _⟩ => ⟨S128x13520, .f32⟩
  | .hbm, ⟨85, _⟩ => ⟨S128x13520, .f32⟩
  | .hbm, ⟨86, _⟩ => ⟨S128x13520, .f32⟩
  | .hbm, ⟨87, _⟩ => ⟨S_, .f32⟩
  | .hbm, ⟨88, _⟩ => ⟨S128, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S128x13520x2, .f32⟩
  | .hbm, ⟨94, _⟩ => ⟨S128x13520x2, .f32⟩
  | .hbm, ⟨95, _⟩ => ⟨S_, .f32⟩
  | .hbm, ⟨96, _⟩ => ⟨S128x13520, .f32⟩
  | .hbm, ⟨97, _⟩ => ⟨S128x13520, .f32⟩
  | .hbm, ⟨98, _⟩ => ⟨S128x13520, .f32⟩
  | .hbm, ⟨99, _⟩ => ⟨S_, .f32⟩
  | .hbm, ⟨100, _⟩ => ⟨S128, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S1, .f32⟩
  | _, _ => ⟨S128x40x52x52, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_cst_10 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_11 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_12 : Ref sig .tc := ⟨.hbm, 59, rfl⟩
abbrev main_v44 : Ref sig .tc := ⟨.hbm, 60, rfl⟩
abbrev main_cst_13 : Ref sig .tc := ⟨.hbm, 61, rfl⟩
abbrev main_v45 : Ref sig .tc := ⟨.hbm, 62, rfl⟩
abbrev main_cst_14 : Ref sig .tc := ⟨.hbm, 63, rfl⟩
abbrev main_v46 : Ref sig .tc := ⟨.hbm, 64, rfl⟩
abbrev main_v47 : Ref sig .tc := ⟨.hbm, 65, rfl⟩
abbrev main_cst_15 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_16 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_17 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_18 : Ref sig .tc := ⟨.hbm, 87, rfl⟩
abbrev main_v66 : Ref sig .tc := ⟨.hbm, 88, rfl⟩
abbrev main_cst_19 : Ref sig .tc := ⟨.hbm, 89, rfl⟩
abbrev main_v67 : Ref sig .tc := ⟨.hbm, 90, rfl⟩
abbrev main_cst_20 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_21 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_22 : Ref sig .tc := ⟨.hbm, 99, rfl⟩
abbrev main_v74 : Ref sig .tc := ⟨.hbm, 100, rfl⟩
abbrev main_cst_23 : Ref sig .tc := ⟨.hbm, 101, rfl⟩
abbrev main_v75 : Ref sig .tc := ⟨.hbm, 102, rfl⟩
abbrev main_cst_24 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩

abbrev nD : Nat := 1
abbrev τ : Topo := Topo.v7x

variable {F : FTy → Type} [FloatOps F]
-- ==== Proof.KernelIdealBody.lean ====
/- What one grid step of the loss kernel does to its memory: the five running sums it keeps in scalar memory move from
   one value to the next, and the last step writes the loss from them. Stated at any float type. -/
module

public import proofs.«01_k».proof.Proof.Gen.KernelIdeal.Frame
public import proofs.«01_k».proof.Proof.Gen.KernelIdeal.Skeleton
public import Idealize.ShloMosaic.Lib.CellWrites
public import Idealize.ShloMosaic.Lib.WholeRead
public import Idealize.ShloMosaic.Lib.Pointwise.Index

@[expose] public section

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-! ## The running sums -/

/-- The five running sums: confidence, class, centre, size, and the number of objects. -/
structure Acc (F : FTy → Type) where
  conf : Elt F .f32
  cls : Elt F .f32
  xy : Elt F .f32
  wh : Elt F .f32
  pos : Elt F .f32

/-- The running sums before the first step: all zero. -/
def Acc.zero : Acc F :=
  ⟨Scalar.ofBits .f32 0x00000000#32, Scalar.ofBits .f32 0x00000000#32, Scalar.ofBits .f32 0x00000000#32,
    Scalar.ofBits .f32 0x00000000#32, Scalar.ofBits .f32 0x00000000#32⟩

/-- Channel `k` of a block of predictions. -/
def predAt (x : Vec F S4x8x13520 .f32) (k : Fin 8) : Vec F S4x1x13520 .f32 := fun y => x (ix3 (y 0) k (y 2))

/-- Channel `k` of a block of targets. -/
def targAt (x : Vec F S4x13x13520 .f32) (k : Fin 13) : Vec F S4x1x13520 .f32 := fun y => x (ix3 (y 0) k (y 2))

/-- The mask times the weight, over one block. -/
def weighted (g : Vec F S4x13x13520 .f32) : FVec F S4x13520 .f32 := k0_pay9 (k0_pay4 (targAt g 0)) (targAt g 8)

/-- The running sums after a step on a block of predictions `p` and a block of targets `g`. -/
def step (p : Vec F S4x8x13520 .f32) (g : Vec F S4x13x13520 .f32) (a : Acc F) : Acc F where
  conf := k0_pay5 (targAt g 0) (predAt p 0) a.conf
  cls := k0_pay8 (k0_pay4 (targAt g 0))
    (k0_pay7 (k0_pay4 (targAt g 0)) (predAt p 1) (targAt g 1) (predAt p 2) (targAt g 2))
    (predAt p 3) (targAt g 3) a.cls
  xy := k0_pay11 (weighted g) (k0_pay10 (predAt p 4) (targAt g 4)) (predAt p 5) (targAt g 5) a.xy
  wh := k0_pay1 (weighted g) (k0_pay12 (weighted g) (predAt p 6) (targAt g 6)) (predAt p 7) (targAt g 7) a.wh
  pos := k0_pay6 (targAt g 0) a.pos

/-- The loss the last step computes from the running sums. -/
def total (a : Acc F) : Elt F .f32 := k0_pay2 a.pos a.conf a.xy a.wh a.cls

/-- The first five words of the scratch memory hold the running sums `a`. -/
def Holds (xs : Vec F S8 .f32) (a : Acc F) : Prop :=
  xs (ix1 0) = a.conf ∧ xs (ix1 1) = a.cls ∧ xs (ix1 2) = a.xy ∧ xs (ix1 3) = a.wh ∧ xs (ix1 4) = a.pos

theorem Holds.of_eq {xs : Vec F S8 .f32} {a b : Acc F} (h : Holds xs a) (e : a = b) : Holds xs b := e ▸ h

/-! ## Loads read as plain functions -/

/-- A load of channel `k` of a block of predictions reads that channel. -/
theorem load_pred {m : Memref sig .tc .vmem S4x8x13520 .f32} (h : m.IsWhole) (x : Vec F S4x8x13520 .f32) (k : ℕ)
    (inb : ∀ a, (![0, k, 0] : Fin 3 → ℕ) a + S4x1x13520.size a ≤ S4x8x13520.size a) :
    View.readAt (Elt F) m.view (Rect.unit (s := S4x8x13520) ![0, k, 0] S4x1x13520.size inb).toLoadRect (h.unread x)
      = predAt x ⟨k, inb 1⟩ := by
  funext y
  rw [h.readAt_unread]
  refine congrArg x (funext fun a => Fin.ext ?_)
  have h1 : (y 1).val < 1 := (y 1).isLt
  match a with
  | ⟨0, _⟩ => show 0 + 1 * (y 0).val = (y 0).val; omega
  | ⟨1, _⟩ => show k + 1 * (y 1).val = k; omega
  | ⟨2, _⟩ => show 0 + 1 * (y 2).val = (y 2).val; omega

/-- A load of channel `k` of a block of targets reads that channel. -/
theorem load_targ {m : Memref sig .tc .vmem S4x13x13520 .f32} (h : m.IsWhole) (x : Vec F S4x13x13520 .f32) (k : ℕ)
    (inb : ∀ a, (![0, k, 0] : Fin 3 → ℕ) a + S4x1x13520.size a ≤ S4x13x13520.size a) :
    View.readAt (Elt F) m.view (Rect.unit (s := S4x13x13520) ![0, k, 0] S4x1x13520.size inb).toLoadRect (h.unread x)
      = targAt x ⟨k, inb 1⟩ := by
  funext y
  rw [h.readAt_unread]
  refine congrArg x (funext fun a => Fin.ext ?_)
  have h1 : (y 1).val < 1 := (y 1).isLt
  match a with
  | ⟨0, _⟩ => show 0 + 1 * (y 0).val = (y 0).val; omega
  | ⟨1, _⟩ => show k + 1 * (y 1).val = k; omega
  | ⟨2, _⟩ => show 0 + 1 * (y 2).val = (y 2).val; omega

/-- A load of one word of the scratch memory reads that word. -/
theorem load_word {m : Memref sig .tc .smem S8 .f32} (h : m.IsWhole) (x : Vec F S8 .f32) (k : ℕ)
    (inb : ∀ a, (![k] : Fin 1 → ℕ) a + S1.size a ≤ S8.size a) (z : S1.Idx) :
    View.readAt (Elt F) m.view (Rect.unit (s := S8) ![k] S1.size inb).toLoadRect (h.unread x) z = x (ix1 ⟨k, inb 0⟩) := by
  rw [h.readAt_unread]
  refine congrArg x (funext fun a => Fin.ext ?_)
  have h1 : (z 0).val < 1 := (z 0).isLt
  match a with
  | ⟨0, _⟩ => show k + 1 * (z 0).val = k; omega

/-- After a store of one word to each of the first five words, in the order 0, 4, 1, 2, 3, the scratch memory holds the
running sums stored, whatever it held before. -/
theorem holds_writes (v : View sig .tc .smem S8 .f32) (f : v.ty.Contents (Elt F)) (w0 w1 w2 w3 w4 : Elt F .f32)
    (i0 : ∀ d, (![0] : Fin 1 → ℕ) d + (![1] : Fin 1 → ℕ) d ≤ S8.size d)
    (i1 : ∀ d, (![1] : Fin 1 → ℕ) d + (![1] : Fin 1 → ℕ) d ≤ S8.size d)
    (i2 : ∀ d, (![2] : Fin 1 → ℕ) d + (![1] : Fin 1 → ℕ) d ≤ S8.size d)
    (i3 : ∀ d, (![3] : Fin 1 → ℕ) d + (![1] : Fin 1 → ℕ) d ≤ S8.size d)
    (i4 : ∀ d, (![4] : Fin 1 → ℕ) d + (![1] : Fin 1 → ℕ) d ≤ S8.size d)
    (L : List (View.Piece (Elt F) S8 .f32)) :
    Holds (v.read (Elt F) (v.writes (Elt F) f
      (⟨Rect.unit ![3] ![1] i3, fun _ => w3⟩ :: ⟨Rect.unit ![2] ![1] i2, fun _ => w2⟩
        :: ⟨Rect.unit ![1] ![1] i1, fun _ => w1⟩ :: ⟨Rect.unit ![4] ![1] i4, fun _ => w4⟩
        :: ⟨Rect.unit ![0] ![1] i0, fun _ => w0⟩ :: L))) ⟨w0, w1, w2, w3, w4⟩ := by
  refine ⟨?_, ?_, ?_, ?_, ?_⟩ <;> simp only [View.read_writes_cons_cell] <;> rfl

/-- After a store of its one word, the result holds that word. -/
theorem out_writes (v : View sig .tc .smem S1 .f32) (f : v.ty.Contents (Elt F)) (w : Elt F .f32)
    (i0 : ∀ d, (![0] : Fin 1 → ℕ) d + (![1] : Fin 1 → ℕ) d ≤ S1.size d) :
    v.read (Elt F) (v.writes (Elt F) f [⟨Rect.unit ![0] ![1] i0, fun _ => w⟩]) = fun _ => w := by
  funext z
  obtain rfl : z = ix1 0 := by rw [← ix1_eta z]; exact congrArg ix1 (Subsingleton.elim (α := Fin 1) _ _)
  simp only [View.read_writes_cons_cell]
  rfl

/-! ## The three kinds of step -/

/-- The step is the first of the grid. -/
abbrev IsFirst (i : grid0.Coords) : Prop :=
  Scalar.cmpi .ne (Scalar.extui (Scalar.cmpi .eq (BitVec.ofNat 32 (i 0).val) 0#32)) 0#32 = 1#1

/-- The step is the last of the grid. -/
abbrev IsLast (i : grid0.Coords) : Prop := k0_cond2 i = 1#1

set_option maxHeartbeats 1000000 in
/-- A step that is neither the first nor the last moves the running sums by `step` and leaves the result alone. -/
theorem run_mid (c : Dev nD) (i : grid0.Coords)
    (arg1 : Memref sig .tc .vmem S4x8x13520 .f32) (harg1 : arg1.IsWhole)
    (arg2 : Memref sig .tc .vmem S4x13x13520 .f32) (harg2 : arg2.IsWhole)
    (arg3 : Memref sig .tc .smem S1 .f32) (harg3 : arg3.IsWhole)
    (arg4 : Memref sig .tc .smem S8 .f32) (harg4 : arg4.IsWhole)
    (h0 : ¬ IsFirst i) (h1 : ¬ IsLast i)
    (x0 : Vec F S4x8x13520 .f32) (x1 : Vec F S4x13x13520 .f32) (xo : Vec F S1 .f32) (xs : Vec F S8 .f32)
    (a : Acc F) (ha : Holds xs a) (E : Set ℕ) (K : PUnit → sProp 𝕄) :
    iprop(owns (c : Thread nD τ) arg1 fullShare x0 ∗ owns (c : Thread nD τ) arg2 fullShare x1
        ∗ owns (c : Thread nD τ) arg3 fullShare xo ∗ owns (c : Thread nD τ) arg4 fullShare xs
        ∗ (iprop(owns (c : Thread nD τ) arg1 fullShare x0 ∗ owns (c : Thread nD τ) arg2 fullShare x1
            ∗ owns (c : Thread nD τ) arg3 fullShare xo
            ∗ (∃ xs', ⌜Holds xs' (step x0 x1 a)⌝ ∗ owns (c : Thread nD τ) arg4 fullShare xs')) -∗ K ⟨⟩))
      ⊢ wp frame (wpE (defs₀ (F := F)) Variants.none c none) E
          (cc0__loss_kernel i arg1 harg1 arg2 harg2 arg3 harg3 arg4 harg4) K := by
  simp only [cc0__loss_kernel_eq_skeleton]; unfold cc0__loss_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, Hk⟩
  obtain rfl := harg1.eq_unread hf0
  obtain rfl := harg2.eq_unread hf1
  obtain rfl := harg3.eq_unread hf2
  obtain rfl := harg4.eq_unread hf3
  sl_exec (disch := first | sl_exact h0 | sl_exact h1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _
  isplitr
  swap
  · iexists _; isplitr
    swap; · iexact H3
    ipureintro; rfl
  ipureintro
  obtain ⟨a0, a1, a2, a3, a4⟩ := ha
  refine Holds.of_eq (holds_writes arg4.view _ _ _ _ _ _ _ _ _ _ _ _) ?_
  delta run_mid.sl.r_9 run_mid.sl.r_8 run_mid.sl.r_7 run_mid.sl.r_6 run_mid.sl.r_5 run_mid.sl.r_4 run_mid.sl.r_3 run_mid.sl.r_2 run_mid.sl.r_1 run_mid.sl.r
  delta run_mid.sl.f_3 run_mid.sl.f_2 run_mid.sl.f_1 run_mid.sl.f
  simp only [load_pred harg1, load_targ harg2, load_word harg4]
  have e0 : xs (ix1 ⟨0, by omega⟩) = a.conf := a0
  have e1 : xs (ix1 ⟨1, by omega⟩) = a.cls := a1
  have e2 : xs (ix1 ⟨2, by omega⟩) = a.xy := a2
  have e3 : xs (ix1 ⟨3, by omega⟩) = a.wh := a3
  have e4 : xs (ix1 ⟨4, by omega⟩) = a.pos := a4
  simp only [e0, e1, e2, e3, e4]
  rfl

set_option maxHeartbeats 1000000 in
/-- The first step clears the running sums, moves them by `step` and leaves the result alone. -/
theorem run_first (c : Dev nD) (i : grid0.Coords)
    (arg1 : Memref sig .tc .vmem S4x8x13520 .f32) (harg1 : arg1.IsWhole)
    (arg2 : Memref sig .tc .vmem S4x13x13520 .f32) (harg2 : arg2.IsWhole)
    (arg3 : Memref sig .tc .smem S1 .f32) (harg3 : arg3.IsWhole)
    (arg4 : Memref sig .tc .smem S8 .f32) (harg4 : arg4.IsWhole)
    (h0 : IsFirst i) (h1 : ¬ IsLast i)
    (x0 : Vec F S4x8x13520 .f32) (x1 : Vec F S4x13x13520 .f32) (xo : Vec F S1 .f32) (xs : Vec F S8 .f32)
    (E : Set ℕ) (K : PUnit → sProp 𝕄) :
    iprop(owns (c : Thread nD τ) arg1 fullShare x0 ∗ owns (c : Thread nD τ) arg2 fullShare x1
        ∗ owns (c : Thread nD τ) arg3 fullShare xo ∗ owns (c : Thread nD τ) arg4 fullShare xs
        ∗ (iprop(owns (c : Thread nD τ) arg1 fullShare x0 ∗ owns (c : Thread nD τ) arg2 fullShare x1
            ∗ owns (c : Thread nD τ) arg3 fullShare xo
            ∗ (∃ xs', ⌜Holds xs' (step x0 x1 Acc.zero)⌝ ∗ owns (c : Thread nD τ) arg4 fullShare xs')) -∗ K ⟨⟩))
      ⊢ wp frame (wpE (defs₀ (F := F)) Variants.none c none) E
          (cc0__loss_kernel i arg1 harg1 arg2 harg2 arg3 harg3 arg4 harg4) K := by
  simp only [cc0__loss_kernel_eq_skeleton]; unfold cc0__loss_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, Hk⟩
  obtain rfl := harg1.eq_unread hf0
  obtain rfl := harg2.eq_unread hf1
  obtain rfl := harg3.eq_unread hf2
  obtain rfl := harg4.eq_unread hf3
  sl_exec (disch := first | sl_exact h0 | sl_exact h1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _
  isplitr
  swap
  · iexists _; isplitr
    swap; · iexact H3
    ipureintro; rfl
  ipureintro
  refine Holds.of_eq (holds_writes arg4.view _ _ _ _ _ _ _ _ _ _ _ _) ?_
  try delta run_first.sl.r_10
  try delta run_first.sl.r_9
  try delta run_first.sl.r_8
  try delta run_first.sl.r_7
  try delta run_first.sl.r_6
  try delta run_first.sl.r_5
  try delta run_first.sl.r_4
  try delta run_first.sl.r_3
  try delta run_first.sl.r_2
  try delta run_first.sl.r_1
  try delta run_first.sl.r
  delta run_first.sl.cst_78
  simp only [load_pred harg1, load_targ harg2]
  rfl

set_option maxHeartbeats 1000000 in
/-- The last step moves the running sums by `step` and writes the loss computed from them. -/
theorem run_last (c : Dev nD) (i : grid0.Coords)
    (arg1 : Memref sig .tc .vmem S4x8x13520 .f32) (harg1 : arg1.IsWhole)
    (arg2 : Memref sig .tc .vmem S4x13x13520 .f32) (harg2 : arg2.IsWhole)
    (arg3 : Memref sig .tc .smem S1 .f32) (harg3 : arg3.IsWhole)
    (arg4 : Memref sig .tc .smem S8 .f32) (harg4 : arg4.IsWhole)
    (h0 : ¬ IsFirst i) (h1 : IsLast i)
    (x0 : Vec F S4x8x13520 .f32) (x1 : Vec F S4x13x13520 .f32) (xo : Vec F S1 .f32) (xs : Vec F S8 .f32)
    (a : Acc F) (ha : Holds xs a) (E : Set ℕ) (K : PUnit → sProp 𝕄) :
    iprop(owns (c : Thread nD τ) arg1 fullShare x0 ∗ owns (c : Thread nD τ) arg2 fullShare x1
        ∗ owns (c : Thread nD τ) arg3 fullShare xo ∗ owns (c : Thread nD τ) arg4 fullShare xs
        ∗ (iprop(owns (c : Thread nD τ) arg1 fullShare x0 ∗ owns (c : Thread nD τ) arg2 fullShare x1
            ∗ owns (c : Thread nD τ) arg3 fullShare (fun _ => total (step x0 x1 a))
            ∗ (∃ xs', ⌜Holds xs' (step x0 x1 a)⌝ ∗ owns (c : Thread nD τ) arg4 fullShare xs')) -∗ K ⟨⟩))
      ⊢ wp frame (wpE (defs₀ (F := F)) Variants.none c none) E
          (cc0__loss_kernel i arg1 harg1 arg2 harg2 arg3 harg3 arg4 harg4) K := by
  simp only [cc0__loss_kernel_eq_skeleton]; unfold cc0__loss_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, Hk⟩
  obtain rfl := harg1.eq_unread hf0
  obtain rfl := harg2.eq_unread hf1
  obtain rfl := harg3.eq_unread hf2
  obtain rfl := harg4.eq_unread hf3
  obtain ⟨a0, a1, a2, a3, a4⟩ := ha
  have e0 : xs (ix1 ⟨0, by omega⟩) = a.conf := a0
  have e1 : xs (ix1 ⟨1, by omega⟩) = a.cls := a1
  have e2 : xs (ix1 ⟨2, by omega⟩) = a.xy := a2
  have e3 : xs (ix1 ⟨3, by omega⟩) = a.wh := a3
  have e4 : xs (ix1 ⟨4, by omega⟩) = a.pos := a4
  sl_exec (disch := first | sl_exact h0 | sl_exact h1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    refine (out_writes arg3.view _ _ _).trans (funext fun _ => ?_)
    try delta run_last.sl.r_14
    try delta run_last.sl.r_13
    try delta run_last.sl.r_12
    try delta run_last.sl.r_11
    try delta run_last.sl.r_10
    try delta run_last.sl.r_9
    try delta run_last.sl.r_8
    try delta run_last.sl.r_7
    try delta run_last.sl.r_6
    try delta run_last.sl.r_5
    try delta run_last.sl.r_4
    try delta run_last.sl.r_3
    try delta run_last.sl.r_2
    try delta run_last.sl.r_1
    try delta run_last.sl.r
    delta run_last.sl.f_3 run_last.sl.f_2 run_last.sl.f_1 run_last.sl.f
    simp only [load_pred harg1, load_targ harg2, load_word harg4, e0, e1, e2, e3, e4]
    rfl
  iexists _
  isplitr
  swap
  · iexists _; isplitr
    swap; · iexact H3
    ipureintro; rfl
  ipureintro
  refine Holds.of_eq (holds_writes arg4.view _ _ _ _ _ _ _ _ _ _ _ _) ?_
  delta run_last.sl.r_9 run_last.sl.r_8 run_last.sl.r_7 run_last.sl.r_6 run_last.sl.r_5 run_last.sl.r_4 run_last.sl.r_3 run_last.sl.r_2 run_last.sl.r_1 run_last.sl.r
  delta run_last.sl.f_3 run_last.sl.f_2 run_last.sl.f_1 run_last.sl.f
  simp only [load_pred harg1, load_targ harg2, load_word harg4, e0, e1, e2, e3, e4]
  rfl

end Cert.KernelIdeal.Loss

end
-- ==== Proof.KernelIdealFrame.lean ====
/- The whole run of the loss kernel: the running sums after each grid step, what the launch is told the memory holds
   before and after each step, the run of the program, and that it leaves its arguments as it found them. Stated at any
   float type. -/
module

public import proofs.«01_k».proof.Proof.KernelIdealBody
public import Idealize.ShloMosaic.Lib.Claim

@[expose] public section

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which step is first, which is last, and where the result is written -/

/-- The first step is the one at position 0. -/
theorem isFirst_iff (t : Fin cfg0.N) : IsFirst (grid0.coords t) ↔ t.val = 0 := by
  have ht : t.val < 32 := Nat.lt_of_lt_of_eq t.isLt N_0
  have e0 : (grid0.coords t 0).val = t.val / 1 % 32 := Pipeline.Grid.coords_val t 0 (by decide) rfl
  simp only [IsFirst, e0]
  have : t.val = 0 ↔ t.val % 32 = 0 := by omega
  rw [this]
  word_cmp

/-- The last step is the one at position 31. -/
theorem isLast_iff (t : Fin cfg0.N) : IsLast (grid0.coords t) ↔ t.val = 31 := by
  have ht : t.val < 32 := Nat.lt_of_lt_of_eq t.isLt N_0
  have e0 : (grid0.coords t 0).val = t.val / 1 % 32 := Pipeline.Grid.coords_val t 0 (by decide) rfl
  simp only [IsLast, k0_cond2, e0]
  have : t.val = 31 ↔ t.val % 32 = 31 := by omega
  rw [this]
  word_cmp

/-- The result is left alone at every step but the last. -/
theorem out_idle : ∀ t : Fin cfg0.N, t.val ≠ 31 → cfg0.idle 2 (grid0.coords t) = true := by decide +kernel
/-- The result is not written back at any step but the last. -/
theorem out_kept : ∀ t : Fin cfg0.N, t.val ≠ 31 → (cfg0.win 2).flush t = false := by decide +kernel
/-- The result is stored at the last step. -/
theorem out_live : ∀ t : Fin cfg0.N, t.val = 31 → cfg0.idle 2 (grid0.coords t) = false := by decide +kernel

/-! ## The buffers a step works on -/

/-- The buffer holding the step's block of predictions. -/
abbrev bufP (t : Fin cfg0.N) : Memref sig .tc .vmem S4x8x13520 .f32 := win0_0.stage (cfg0.slots t 0)
theorem bufP_whole (t : Fin cfg0.N) : (bufP t).IsWhole := hstage0_0 ((cfg0.slots t 0).cast nbuf0_0)
/-- The buffer holding the step's block of targets. -/
abbrev bufG (t : Fin cfg0.N) : Memref sig .tc .vmem S4x13x13520 .f32 := win0_1.stage (cfg0.slots t 1)
theorem bufG_whole (t : Fin cfg0.N) : (bufG t).IsWhole := hstage0_1 ((cfg0.slots t 1).cast nbuf0_1)
/-- The buffer the result is stored in. -/
abbrev bufO (t : Fin cfg0.N) : Memref sig .tc .smem S1 .f32 := win0_2.stage (cfg0.slots t 2)
theorem bufO_whole (t : Fin cfg0.N) : (bufO t).IsWhole := hstage0_2 ((cfg0.slots t 2).cast nbuf0_2)
/-- The scratch memory. -/
abbrev scr : Memref sig .tc .smem S8 .f32 := Memref.whole cc0_scratch0

/-- What the launch hands the first step beside the windows: the scratch memory at anything, and the generator. -/
theorem handed_eq (c : Dev nD) :
    (Pipeline.ΦA spec0 c : sProp 𝕄)
      = iprop((∃ d, owns (c : Thread nD τ) scr fullShare d) ∗ (∃ r, prngReg c r)) := by
  unfold Pipeline.ΦA; rw [scopedRest0_eq]; simp only [scr, owns_whole]; try rfl

/-! ## The running sums, step by step -/

/-- The running sums after the first `n` steps. -/
def acc (c : Dev nD) : ℕ → Acc F
  | 0 => Acc.zero
  | n + 1 => if h : n < cfg0.N then step (iblk m c 0 ⟨n, h⟩) (iblk m c 1 ⟨n, h⟩) (acc c n) else acc c n

/-- One more step. -/
theorem acc_succ (c : Dev nD) (t : Fin cfg0.N) :
    acc m c (t.val + 1) = step (iblk m c 0 t) (iblk m c 1 t) (acc m c t.val) := dif_pos t.isLt

/-- What is known of the scratch memory before step `n`: nothing before the first, afterwards the running sums. -/
def inv (c : Dev nD) : ℕ → sProp 𝕄
  | 0 => Pipeline.ΦA spec0 c
  | n + 1 => iprop((∃ xs, ⌜Holds xs (acc m c (n + 1))⌝ ∗ owns (c : Thread nD τ) scr fullShare xs) ∗ (∃ r, prngReg c r))

theorem inv_pos (c : Dev nD) (n : ℕ) (h : n ≠ 0) :
    inv m c n = iprop((∃ xs, ⌜Holds xs (acc m c n)⌝ ∗ owns (c : Thread nD τ) scr fullShare xs) ∗ (∃ r, prngReg c r)) := by
  cases n with
  | zero => exact absurd rfl h
  | succ n => rfl

/-- What the launch is told: the arrays as the host leaves them, each input's buffer at its block, the result's buffer
at the loss of the running sums so far, and the scratch memory as `inv` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fun _ => total (acc m c (t.val + 1))
  Φ t := inv m c t.val
  q _ := fullShare
  owed _ := 0

theorem A_eq (c : Dev nD) (w : Fin cfg0.W) : (dats m 0 c).A w = V m c (Pipeline.arrRef spec0 w) := by
  dsimp only [dats]
theorem after_P (c : Dev nD) (t : Fin cfg0.N) : (dats m 0 c).after 0 t = iblk m c 0 t := by dsimp only [dats]
theorem after_G (c : Dev nD) (t : Fin cfg0.N) : (dats m 0 c).after 1 t = iblk m c 1 t := by dsimp only [dats]
theorem after_O (c : Dev nD) (t : Fin cfg0.N) : (dats m 0 c).after 2 t = fun _ => total (acc m c (t.val + 1)) := by
  dsimp only [dats]
theorem before_P (c : Dev nD) (t : Fin cfg0.N) (d) : (dats m 0 c).before 0 t d = iblk m c 0 t :=
  before0_0_of m (dats m 0 c) (A_eq m c 0) (after_P m c) t d
theorem before_G (c : Dev nD) (t : Fin cfg0.N) (d) : (dats m 0 c).before 1 t d = iblk m c 1 t :=
  before0_1_of m (dats m 0 c) (A_eq m c 1) (after_G m c) t d

/-! ## Each step does what the launch is told -/

/-- What a step starts from. -/
def stepPre (c : Dev nD) (t : Fin cfg0.N) : sProp 𝕄 :=
  iprop(inv m c t.val ∗ (dats m 0 c).owesAt () t.castSucc
    ∗ (∃ d, owns (c : Thread nD τ) (bufP t) fullShare ((dats m 0 c).before 0 t d))
    ∗ (∃ d, owns (c : Thread nD τ) (bufG t) fullShare ((dats m 0 c).before 1 t d))
    ∗ (∃ d, owns (c : Thread nD τ) (bufO t) fullShare ((dats m 0 c).before 2 t d)))

/-- What a step ends with. -/
def stepPost (c : Dev nD) (t : Fin cfg0.N) : sProp 𝕄 :=
  iprop(inv m c (t.val + 1) ∗ (dats m 0 c).owesAt () t.castSucc
    ∗ (dats m 0 c).leavesExact 0 t ∗ (dats m 0 c).leavesExact 1 t ∗ (dats m 0 c).leavesExact 2 t)

theorem leaves_P (c : Dev nD) (t : Fin cfg0.N) :
    (dats m 0 c).leavesExact 0 t = owns (c : Thread nD τ) (bufP t) fullShare (iblk m c 0 t) := by
  unfold Dat.leavesExact; rw [show cfg0.idle 0 (grid0.coords t) = false from rfl, after_P]
theorem leaves_G (c : Dev nD) (t : Fin cfg0.N) :
    (dats m 0 c).leavesExact 1 t = owns (c : Thread nD τ) (bufG t) fullShare (iblk m c 1 t) := by
  unfold Dat.leavesExact; rw [show cfg0.idle 1 (grid0.coords t) = false from rfl, after_G]
theorem leaves_O (c : Dev nD) (t : Fin cfg0.N) (h : t.val = 31) :
    (dats m 0 c).leavesExact 2 t
      = owns (c : Thread nD τ) (bufO t) fullShare (fun _ => total (acc m c (t.val + 1))) := by
  unfold Dat.leavesExact; rw [out_live t h, after_O]; rfl

set_option maxHeartbeats 1000000 in
/-- The first step. -/
theorem sound_first (c : Dev nD) (t : Fin cfg0.N) (h : t.val = 0) :
    stepPre m c t ⊢ wp frame (wpE (defs₀ (F := F)) Variants.none c none) Set.univ (bodyAt0 t) (fun _ => stepPost m c t) := by
  have hl : t.val ≠ 31 := by omega
  unfold stepPre stepPost bodyAt0
  simp only [before_P, before_G]
  rw [leaves_P, leaves_G, Dat.leavesExact_idle (dats m 0 c) 2 t (out_idle t hl) (out_kept t hl)]
  rw [inv_pos m c (t.val + 1) (Nat.succ_ne_zero _), acc_succ]
  simp only [h]
  rw [show inv m c 0 = (Pipeline.ΦA spec0 c : sProp 𝕄) from rfl, handed_eq]
  rw [show acc m c 0 = Acc.zero from rfl]
  iintro ⟨⟨⟨%xs, HS⟩, Hg⟩, Ho, ⟨%d0, H0⟩, ⟨%d1, H1⟩, ⟨%d2, H2⟩⟩
  iapply run_first c (grid0.coords t) (bufP t) (bufP_whole t) (bufG t) (bufG_whole t) (bufO t) (bufO_whole t)
    scr (Memref.isWhole_whole _) ((isFirst_iff t).mpr h) (fun e => hl ((isLast_iff t).mp e))
    (iblk m c 0 t) (iblk m c 1 t) _ xs Set.univ _
  isplitl [H0]; · iexact H0
  isplitl [H1]; · iexact H1
  isplitl [H2]; · iexact H2
  isplitl [HS]; · iexact HS
  iintro ⟨H0, H1, H2, HS⟩
  isplitl [HS Hg]
  · isplitl [HS]; · iexact HS
    iexact Hg
  isplitl [Ho]; · iexact Ho
  isplitl [H0]; · iexact H0
  isplitl [H1]; · iexact H1
  iexists _; iexact H2

set_option maxHeartbeats 1000000 in
/-- A step that is neither the first nor the last. -/
theorem sound_mid (c : Dev nD) (t : Fin cfg0.N) (h : t.val ≠ 0) (hl : t.val ≠ 31) :
    stepPre m c t ⊢ wp frame (wpE (defs₀ (F := F)) Variants.none c none) Set.univ (bodyAt0 t) (fun _ => stepPost m c t) := by
  unfold stepPre stepPost bodyAt0
  simp only [before_P, before_G]
  rw [leaves_P, leaves_G, Dat.leavesExact_idle (dats m 0 c) 2 t (out_idle t hl) (out_kept t hl)]
  rw [inv_pos m c (t.val + 1) (Nat.succ_ne_zero _), inv_pos m c t.val h, acc_succ]
  iintro ⟨⟨⟨%xs, %hx, HS⟩, Hg⟩, Ho, ⟨%d0, H0⟩, ⟨%d1, H1⟩, ⟨%d2, H2⟩⟩
  iapply run_mid c (grid0.coords t) (bufP t) (bufP_whole t) (bufG t) (bufG_whole t) (bufO t) (bufO_whole t)
    scr (Memref.isWhole_whole _) (fun e => h ((isFirst_iff t).mp e)) (fun e => hl ((isLast_iff t).mp e))
    (iblk m c 0 t) (iblk m c 1 t) _ xs (acc m c t.val) hx Set.univ _
  isplitl [H0]; · iexact H0
  isplitl [H1]; · iexact H1
  isplitl [H2]; · iexact H2
  isplitl [HS]; · iexact HS
  iintro ⟨H0, H1, H2, HS⟩
  isplitl [HS Hg]
  · isplitl [HS]; · iexact HS
    iexact Hg
  isplitl [Ho]; · iexact Ho
  isplitl [H0]; · iexact H0
  isplitl [H1]; · iexact H1
  iexists _; iexact H2

set_option maxHeartbeats 1000000 in
/-- The last step. -/
theorem sound_last (c : Dev nD) (t : Fin cfg0.N) (hl : t.val = 31) :
    stepPre m c t ⊢ wp frame (wpE (defs₀ (F := F)) Variants.none c none) Set.univ (bodyAt0 t) (fun _ => stepPost m c t) := by
  have h : t.val ≠ 0 := by omega
  unfold stepPre stepPost bodyAt0
  simp only [before_P, before_G]
  rw [leaves_P, leaves_G, leaves_O m c t hl]
  rw [inv_pos m c (t.val + 1) (Nat.succ_ne_zero _), inv_pos m c t.val h, acc_succ]
  iintro ⟨⟨⟨%xs, %hx, HS⟩, Hg⟩, Ho, ⟨%d0, H0⟩, ⟨%d1, H1⟩, ⟨%d2, H2⟩⟩
  iapply run_last c (grid0.coords t) (bufP t) (bufP_whole t) (bufG t) (bufG_whole t) (bufO t) (bufO_whole t)
    scr (Memref.isWhole_whole _) (fun e => h ((isFirst_iff t).mp e)) ((isLast_iff t).mpr hl)
    (iblk m c 0 t) (iblk m c 1 t) _ xs (acc m c t.val) hx Set.univ _
  isplitl [H0]; · iexact H0
  isplitl [H1]; · iexact H1
  isplitl [H2]; · iexact H2
  isplitl [HS]; · iexact HS
  iintro ⟨H0, H1, H2, HS⟩
  isplitl [HS Hg]
  · isplitl [HS]; · iexact HS
    iexact Hg
  isplitl [Ho]; · iexact Ho
  isplitl [H0]; · iexact H0
  isplitl [H1]; · iexact H1
  iexact H2

/-- Any step. -/
theorem sound (c : Dev nD) (t : Fin cfg0.N) :
    stepPre m c t ⊢ wp frame (wpE (defs₀ (F := F)) Variants.none c none) Set.univ (bodyAt0 t) (fun _ => stepPost m c t) := by
  by_cases h : t.val = 0
  · exact sound_first m c t h
  · by_cases hl : t.val = 31
    · exact sound_last m c t hl
    · exact sound_mid m c t h hl

theorem row (t : Fin cfg0.N) : defs₀ (F := F) .tc cfg0.body (cfg0.bodyArgs t (cfg0.slots t)) = bodyAt0 t := by
  unfold defs₀; rw [Defs.onTc_tc]

/-- Every step of the launch does what the launch is told. -/
theorem body (c : Dev nD) : BodyObligation (dats (F := F) m 0 c) (defs₀ (F := F)) Variants.none () Set.univ := fun t => by
  rw [bigSep_W0, bigSep_W0, row]
  exact triple_restated (sound m c t) rfl .rfl fun _ => .rfl

theorem start (c : Dev nD) : Pipeline.ΦA spec0 c ⊢ (dats m 0 c).Φ 0 := by
  rw [show (dats m 0 c).Φ 0 = (Pipeline.ΦA spec0 c : sProp 𝕄) from rfl]

theorem finish (c : Dev nD) : (dats m 0 c).Φ (Fin.last cfg0.N) ⊢ Pipeline.ΦA spec0 c := by
  rw [show (dats m 0 c).Φ (Fin.last cfg0.N) = inv m c cfg0.N from rfl,
    inv_pos m c _ (by rw [show cfg0.N = 32 from N_0]; omega), handed_eq]
  iintro ⟨⟨%xs, %hx, HS⟩, Hg⟩
  isplitl [HS]
  · iexists _; iexact HS
  iexact Hg

/-! ## The run -/

set_option backward.isDefEq.respectTransparency.types false in
/-- The program runs to its end; each array then holds what the launch was told, and every semaphore is at zero. -/
theorem run : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body m c).loose) (hshare := fun c => (dats m 0 c).share_full fun _ => rfl)
    (howed := fun _ _ => rfl) (V := V m) (hmain := hmain m Variants.none) (hA := A_eq m) (hin := start m) (hout := finish m)

/-- The program runs to its end, leaves its arguments as it found them, and leaves every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal.Loss

end
-- ==== Proof.LossMath.lean ====
/-
  The arithmetic of the detection loss over the extended reals, away from any program.

  `P b n k` is prediction channel `k` of anchor `n` of image `b`, `T b n k` the target channel. `written` is the loss as the
  mathematics writes it: five means or ratios, each over all anchors, the per-anchor losses masked after they are added.
  `gathered` is the same loss as one pass over the anchors can gather it: the two confidence terms in one sum under a
  weighted mask, every channel's loss masked on its own, one division by the batch at the end. `gathered_eq_written`
  says they are equal when every label is one the loss knows (`Known`).
-/
module

public import Idealize.ShloMosaic.PureOps.Ideal.Laws
public import Idealize.ShloMosaic.Lib.IdealHost

@[expose] public section

noncomputable section

namespace Cert.LossMath

open Idealize.ShloMosaic

/-! ## One anchor -/

/-- The cross entropy of the logit `x` against the target `t`, in the form that does not overflow. -/
def bce (x t : EReal) : EReal := (max x 0 - x * t) + Ideal.log1p (Ideal.exp (-(max x (-x))))

/-- The squared difference. -/
def sq (x t : EReal) : EReal := (x - t) * (x - t)

/-- 1 at an anchor that holds an object, 0 elsewhere. -/
def one (g : EReal) : EReal := if g = 1 then 1 else 0

/-- 1 at an anchor that holds none, 0 elsewhere. -/
def zer (g : EReal) : EReal := if g = 0 then 1 else 0

/-- The test the one-pass form makes for an object: the confidence is above one half. -/
def above (g : EReal) : EReal := if ((1 / 2 : ℝ) : EReal) < g then 1 else 0

/-- The test the one-pass form makes for no object: the confidence is within one half of zero. -/
def near (g : EReal) : EReal := if max g (-g) < ((1 / 2 : ℝ) : EReal) then 1 else 0

/-- A label the loss knows: the confidence is 1 (object), 0 (none) or at most minus one half (ignored), and the
    weight of the box is a nonnegative real. -/
structure Known (g w : EReal) : Prop where
  conf : g = 1 ∨ g = 0 ∨ g ≤ ((-(1 / 2) : ℝ) : EReal)
  nonneg : 0 ≤ w
  finite : w ≠ ⊤

theorem half_lt_one : ((1 / 2 : ℝ) : EReal) < 1 := by
  rw [← EReal.coe_one]; exact EReal.coe_lt_coe_iff.2 (by norm_num)

theorem zero_lt_half : (0 : EReal) < ((1 / 2 : ℝ) : EReal) := by
  rw [← EReal.coe_zero]; exact EReal.coe_lt_coe_iff.2 (by norm_num)

/-- On a known label the one-pass test for an object is the written one. -/
theorem above_eq {g w : EReal} (h : Known g w) : above g = one g := by
  unfold above one
  rcases h.conf with rfl | rfl | hg
  · rw [if_pos half_lt_one, if_pos rfl]
  · rw [if_neg (not_lt.2 zero_lt_half.le), if_neg zero_ne_one]
  · have h0 : g < 0 := lt_of_le_of_lt hg (by rw [← EReal.coe_zero]; exact EReal.coe_lt_coe_iff.2 (by norm_num))
    rw [if_neg (not_lt.2 (h0.le.trans zero_lt_half.le)), if_neg (fun e => absurd (e ▸ h0) (not_lt.2 zero_le_one))]

/-- On a known label the one-pass test for no object is the written one. -/
theorem near_eq {g w : EReal} (h : Known g w) : near g = zer g := by
  unfold near zer
  rcases h.conf with rfl | rfl | hg
  · rw [if_neg (not_lt.2 (half_lt_one.le.trans (le_max_left _ _))), if_neg one_ne_zero]
  · rw [if_pos (by simpa using zero_lt_half), if_pos rfl]
  · have h0 : g < 0 := lt_of_le_of_lt hg (by rw [← EReal.coe_zero]; exact EReal.coe_lt_coe_iff.2 (by norm_num))
    have h1 : ((1 / 2 : ℝ) : EReal) ≤ -g := by
      rw [EReal.le_neg]; simpa using hg
    rw [if_neg (not_lt.2 (h1.trans (le_max_right _ _))), if_neg h0.ne]

theorem one_cases (g : EReal) : one g = 0 ∨ one g = 1 := by
  unfold one; split <;> simp

theorem zer_cases (g : EReal) : zer g = 0 ∨ zer g = 1 := by
  unfold zer; split <;> simp

theorem one_nonneg (g : EReal) : 0 ≤ one g := by rcases one_cases g with h | h <;> simp [h]

theorem zer_nonneg (g : EReal) : 0 ≤ zer g := by rcases zer_cases g with h | h <;> simp [h]

theorem one_ne_top (g : EReal) : one g ≠ ⊤ := by
  rcases one_cases g with h | h
  · rw [h]; exact EReal.zero_ne_top
  · rw [h]; exact EReal.coe_ne_top 1

/-- A nonnegative real factor distributes over a sum of any two extended reals. -/
theorem add_mul_real {c : EReal} (h0 : 0 ≤ c) (ht : c ≠ ⊤) (a b : EReal) : (a + b) * c = a * c + b * c := by
  rw [mul_comm, EReal.left_distrib_of_nonneg_of_ne_top h0 ht, mul_comm c a, mul_comm c b]

/-- A nonnegative real factor distributes over a finite sum. -/
theorem sum_mul_real {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, add_mul_real h0 ht, ih]

/-- The two confidence terms under one mask are the two terms apart. -/
theorem conf_split (d g : EReal) {f : EReal} (hf : 0 ≤ f) :
    d * (f * one g + zer g) = (d * one g) * f + d * zer g := by
  rw [EReal.left_distrib_of_nonneg (mul_nonneg hf (one_nonneg g)) (zer_nonneg g), mul_comm f, mul_assoc]

/-- Three class losses masked one by one are their sum masked. -/
theorem three_masked (a b c g : EReal) : a * one g + b * one g + c * one g = (a + b + c) * one g := by
  rw [add_mul_real (one_nonneg g) (one_ne_top g), add_mul_real (one_nonneg g) (one_ne_top g)]

/-- Two box losses under the weighted mask are their sum masked, then weighted. -/
theorem two_weighted (a b g : EReal) {w : EReal} (h0 : 0 ≤ w) (ht : w ≠ ⊤) :
    a * (one g * w) + b * (one g * w) = (a + b) * one g * w := by
  rw [add_mul_real (one_nonneg g) (one_ne_top g), add_mul_real h0 ht, mul_assoc, mul_assoc]

/-! ## All anchors -/

/-- The number of images, as the divisor of a mean. -/
def batch : EReal := ((128 : ℝ) : EReal)

/-- The weight of the confidence loss at an object. -/
def five : EReal := ((5 : ℝ) : EReal)

theorem five_nonneg : 0 ≤ five := EReal.coe_nonneg.2 (by norm_num)

theorem five_ne_top : five ≠ ⊤ := EReal.coe_ne_top _

/-- The pattern of the f32 constant 128. -/
theorem ofBits_128 : Ideal.ofBits .f32 0x43000000#32 = batch := by
  simp [Ideal.ofBits, Ideal.ieee, batch]
  rw [← EReal.coe_mul, EReal.coe_eq_coe_iff]; norm_num

/-- The pattern of the f32 constant 5. -/
theorem ofBits_5 : Ideal.ofBits .f32 0x40A00000#32 = five := by
  simp [Ideal.ofBits, Ideal.ieee, five]
  rw [← EReal.coe_mul, EReal.coe_eq_coe_iff]; norm_num

/-- The pattern of the f32 constant one half. -/
theorem ofBits_half : Ideal.ofBits .f32 0x3F000000#32 = ((1 / 2 : ℝ) : EReal) := by
  simp [Ideal.ofBits, Ideal.ieee]
  rw [← EReal.coe_mul, EReal.coe_eq_coe_iff]; norm_num

/-- The pattern of the f32 constant minus one half. -/
theorem ofBits_neg_half : Ideal.ofBits .f32 0xBF000000#32 = ((-(1 / 2) : ℝ) : EReal) := by
  simp [Ideal.ofBits, Ideal.ieee]
  rw [← EReal.coe_mul, EReal.coe_eq_coe_iff]; norm_num

/-- The pattern of the f32 infinity. -/
theorem ofBits_inf : Ideal.ofBits .f32 0x7F800000#32 = ⊤ := by
  simp [Ideal.ofBits, Ideal.ieee]

/-- Dividing by the batch is multiplying by the nonnegative real 1/128. -/
theorem div_batch (x : EReal) : Ideal.div x batch = x * ((1 / 128 : ℝ) : EReal) :=
  Ideal.div_coe (by norm_num) x

theorem inv_nonneg : (0 : EReal) ≤ ((1 / 128 : ℝ) : EReal) := EReal.coe_nonneg.2 (by norm_num)

theorem inv_ne_top : ((1 / 128 : ℝ) : EReal) ≠ ⊤ := EReal.coe_ne_top _

/-- The sum over all anchors of all images. -/
abbrev all (f : Fin 128 → Fin 13520 → EReal) : EReal := ∑ b, ∑ n, f b n

theorem all_add (f g : Fin 128 → Fin 13520 → EReal) : all (fun b n => f b n + g b n) = all f + all g := by
  unfold all; simp only [Finset.sum_add_distrib]

theorem all_mul (f : Fin 128 → Fin 13520 → EReal) {c : EReal} (h0 : 0 ≤ c) (ht : c ≠ ⊤) :
    all (fun b n => f b n * c) = all f * c := by
  unfold all; simp only [sum_mul_real _ _ h0 ht]

theorem all_congr {f g : Fin 128 → Fin 13520 → EReal} (h : ∀ b n, f b n = g b n) : all f = all g :=
  Finset.sum_congr rfl fun b _ => Finset.sum_congr rfl fun n _ => h b n

section
variable (P : Fin 128 → Fin 13520 → Fin 8 → EReal) (T : Fin 128 → Fin 13520 → Fin 13 → EReal)

/-- The confidence loss of an anchor before masking. -/
def conf (b : Fin 128) (n : Fin 13520) : EReal := sq (Ideal.logistic (P b n 0)) (T b n 0)

/-- The loss as the mathematics writes it. -/
def written : EReal :=
  Ideal.div (all fun b n => conf P T b n * one (T b n 0)) batch * five
    + Ideal.div (all fun b n => conf P T b n * zer (T b n 0)) batch * 1
    + Ideal.div (all fun b n => (bce (P b n 1) (T b n 1) + bce (P b n 2) (T b n 2) + bce (P b n 3) (T b n 3)) * one (T b n 0))
        (max (all fun b n => one (T b n 0)) 1)
    + Ideal.div (all fun b n => (bce (P b n 4) (T b n 4) + bce (P b n 5) (T b n 5)) * one (T b n 0) * T b n 8) batch
    + Ideal.div (all fun b n => (sq (P b n 6) (T b n 6) + sq (P b n 7) (T b n 7)) * one (T b n 0) * T b n 8) batch

/-- The confidence part of the one-pass form. -/
def gConf : EReal := all fun b n => conf P T b n * (five * above (T b n 0) + near (T b n 0))

/-- The count of objects in the one-pass form. -/
def gPos : EReal := all fun b n => above (T b n 0)

/-- The class part of the one-pass form. -/
def gCls : EReal := all fun b n =>
  bce (P b n 1) (T b n 1) * above (T b n 0) + bce (P b n 2) (T b n 2) * above (T b n 0) + bce (P b n 3) (T b n 3) * above (T b n 0)

/-- The position part of the one-pass form. -/
def gXy : EReal := all fun b n =>
  bce (P b n 4) (T b n 4) * (above (T b n 0) * T b n 8) + bce (P b n 5) (T b n 5) * (above (T b n 0) * T b n 8)

/-- The size part of the one-pass form. -/
def gWh : EReal := all fun b n =>
  sq (P b n 6) (T b n 6) * (above (T b n 0) * T b n 8) + sq (P b n 7) (T b n 7) * (above (T b n 0) * T b n 8)

/-- The loss as one pass gathers it. -/
def gathered : EReal :=
  Ideal.div (gConf P T + gXy P T + gWh P T) batch + Ideal.div (gCls P T) (max (gPos T) 1)

variable {P T}

/-- On known labels the one-pass loss is the written loss. -/
theorem gathered_eq_written (h : ∀ b n, Known (T b n 0) (T b n 8)) : gathered P T = written P T := by
  have hpos : gPos T = all fun b n => one (T b n 0) := all_congr fun b n => above_eq (h b n)
  have hcls : gCls P T
      = all fun b n => (bce (P b n 1) (T b n 1) + bce (P b n 2) (T b n 2) + bce (P b n 3) (T b n 3)) * one (T b n 0) :=
    all_congr fun b n => by rw [above_eq (h b n), three_masked]
  have hxy : gXy P T = all fun b n => (bce (P b n 4) (T b n 4) + bce (P b n 5) (T b n 5)) * one (T b n 0) * T b n 8 :=
    all_congr fun b n => by rw [above_eq (h b n), two_weighted _ _ _ (h b n).nonneg (h b n).finite]
  have hwh : gWh P T = all fun b n => (sq (P b n 6) (T b n 6) + sq (P b n 7) (T b n 7)) * one (T b n 0) * T b n 8 :=
    all_congr fun b n => by rw [above_eq (h b n), two_weighted _ _ _ (h b n).nonneg (h b n).finite]
  have hconf : gConf P T = (all fun b n => conf P T b n * one (T b n 0)) * five + all fun b n => conf P T b n * zer (T b n 0) := by
    rw [← all_mul _ five_nonneg five_ne_top, ← all_add]
    exact all_congr fun b n => by rw [above_eq (h b n), near_eq (h b n), conf_split _ _ five_nonneg]
  unfold gathered written
  rw [hpos, hcls, hxy, hwh, hconf]
  simp only [div_batch, add_mul_real inv_nonneg inv_ne_top, mul_one]
  rw [mul_right_comm _ five]
  generalize (all fun b n => conf P T b n * one (T b n 0)) * _ * five = a
  generalize (all fun b n => conf P T b n * zer (T b n 0)) * _ = b
  abel

end

end Cert.LossMath

end
-- ==== Proof.KernelIdealSums.lean ====
/-
  One grid step of the loss kernel at the extended reals: what it adds to each of the five running sums, as a sum over
  the anchors of its block.
-/
module

public import proofs.«01_k».proof.Proof.KernelIdealBody
public import proofs.«01_k».proof.Proof.LossMath
public import Idealize.ShloMosaic.Lib.Pipeline.Value

@[expose] public section

set_option maxRecDepth 4096

noncomputable section

namespace Cert.KernelIdeal.Loss

open Cert.KernelIdeal Cert.KernelIdeal.Gen Idealize.ShloMosaic Idealize.ShloMosaic.TcCoe Cert.LossMath

/-! ## The sum over a block -/

/-- The program's sum of a block's values: all anchors of the four images. -/
def tot (v : FVec Ideal S4x13520 .f32) : EReal :=
  extractAt ![0, 0, 0] (shapeCast S1x1x1 (multiReduction (F := Ideal) .add [1, 2] S1
    (shapeCast S1x4x13520 v shapeCasts_S4x13520_S1x4x13520) 0x00000000#32 reduces_S1x4x13520_S1 (.inl rfl) rfl)
    shapeCasts_S1_S1x1x1) inpos_S1x1x1_p0_0_0

theorem tot_read (v : FVec Ideal S4x13520 .f32) : tot v = ∑ r : Fin 4, ∑ n : Fin 13520, v (ix2 r n) := by
  have h := Ideal.multiReduction_add_total (shapeCast S1x4x13520 v shapeCasts_S4x13520_S1x4x13520) 0x00000000#32
    reduces_S1x4x13520_S1 (by intro b; match b with | ⟨0, _⟩ => rfl) (.inl rfl) rfl
  unfold tot extractAt
  rw [show shapeCast S1x1x1 (multiReduction (F := Ideal) .add [1, 2] S1
    (shapeCast S1x4x13520 v shapeCasts_S4x13520_S1x4x13520) 0x00000000#32 reduces_S1x4x13520_S1 (.inl rfl) rfl)
    shapeCasts_S1_S1x1x1 = fun _ => ∑ i, shapeCast S1x4x13520 v shapeCasts_S4x13520_S1x4x13520 i from funext fun j => h _]
  show ∑ i, shapeCast S1x4x13520 v shapeCasts_S4x13520_S1x4x13520 i = _
  rw [sum_idx3, Fin.sum_univ_one]
  refine Finset.sum_congr rfl fun r _ => Finset.sum_congr rfl fun n _ => ?_
  exact shapeCast_apply v _ _ _ (by rw [Shape.rowMajor_val_three, Shape.rowMajor_val_two]; simp)

/-- One channel of a block with the channel's axis dropped. -/
def flat (p : Vec Ideal S4x1x13520 .f32) : FVec Ideal S4x13520 .f32 := shapeCast S4x13520 p shapeCasts_S4x1x13520_S4x13520

theorem flat_read (p : Vec Ideal S4x1x13520 .f32) (r : Fin 4) (n : Fin 13520) : flat p (ix2 r n) = p (ix3 r 0 n) :=
  shapeCast_apply p _ _ _ (by rw [Shape.rowMajor_val_three, Shape.rowMajor_val_two]; simp)

/-! ## The values at one anchor -/

/-- A truth value widened to a word and read as a number: 1 where it holds, 0 where it does not. -/
theorem bit_word (p : Prop) [Decidable p] :
    ((((BitVec.ofBool (decide p)).setWidth 32).toInt : ℝ) : EReal) = if p then 1 else 0 := by
  by_cases h : p <;> simp [h]

/-- The cross entropy as the kernel spells it. -/
def kbce (x t : EReal) : EReal :=
  (max x (Ideal.ofBits .f32 0x00000000#32) - x * t) + Ideal.log1p (Ideal.exp (Ideal.ofBits .f32 0x00000000#32 - max x (-x)))

theorem kbce_eq (x t : EReal) : kbce x t = bce x t := by
  unfold kbce bce; rw [Ideal.ofBits_zero_f32, zero_sub]

/-- The kernel's mask of anchors with an object. -/
theorem mask_read (g : Vec Ideal S4x1x13520 .f32) (r : Fin 4) (n : Fin 13520) :
    k0_pay4 (F := Ideal) g (ix2 r n) = above (g (ix3 r 0 n)) := by
  rw [← flat_read g]
  refine Eq.trans (show _ = ((((Ideal.cmp .ogt (flat g (ix2 r n)) (Ideal.ofBits .f32 0x3F000000#32)).setWidth 32).toInt : ℝ) : EReal) from rfl) ?_
  rw [ofBits_half]
  exact bit_word _

/-- The kernel's mask of anchors with none. -/
def none (g : Vec Ideal S4x1x13520 .f32) : FVec Ideal S4x13520 .f32 := fun y =>
  ((((Ideal.cmp .olt (max (flat g y) (-(flat g y))) (Ideal.ofBits .f32 0x3F000000#32)).setWidth 32).toInt : ℝ) : EReal)

theorem none_read (g : Vec Ideal S4x1x13520 .f32) (r : Fin 4) (n : Fin 13520) : none g (ix2 r n) = near (g (ix3 r 0 n)) := by
  rw [← flat_read g]
  unfold none
  rw [ofBits_half]
  exact bit_word _

/-- The weighted mask. -/
theorem weighted_read (g : Vec Ideal S4x13x13520 .f32) (r : Fin 4) (n : Fin 13520) :
    weighted (F := Ideal) g (ix2 r n) = above (g (ix3 r 0 n)) * g (ix3 r 8 n) := by
  refine Eq.trans (show _ = k0_pay4 (F := Ideal) (targAt g 0) (ix2 r n) * flat (targAt g 8) (ix2 r n) from rfl) ?_
  rw [mask_read, flat_read]; rfl

/-! ## What a step adds -/

/-- The sum over a block of a function of the image and the anchor. -/
abbrev blk (f : Fin 4 → Fin 13520 → EReal) : EReal := ∑ r, ∑ n, f r n

theorem blk_congr {f g : Fin 4 → Fin 13520 → EReal} (h : ∀ r n, f r n = g r n) : blk f = blk g :=
  Finset.sum_congr rfl fun r _ => Finset.sum_congr rfl fun n _ => h r n

theorem blk_add (f g : Fin 4 → Fin 13520 → EReal) : blk f + blk g = blk fun r n => f r n + g r n := by
  unfold blk; simp only [Finset.sum_add_distrib]

variable (p : Vec Ideal S4x8x13520 .f32) (g : Vec Ideal S4x13x13520 .f32) (a : Acc Ideal)

/-- The program's sum of a masked cross entropy over a block. -/
theorem tot_bce (k : Fin 8) (l : Fin 13) (w : FVec Ideal S4x13520 .f32) :
    tot (fun y => kbce (flat (predAt p k) y) (flat (targAt g l) y) * w y)
      = blk fun r n => bce (p (ix3 r k n)) (g (ix3 r l n)) * w (ix2 r n) := by
  rw [tot_read]
  exact blk_congr fun r n => by rw [kbce_eq, flat_read, flat_read]; rfl

/-- The program's sum of a masked squared difference over a block. -/
theorem tot_sq (k : Fin 8) (l : Fin 13) (w : FVec Ideal S4x13520 .f32) :
    tot (fun y => sq (flat (predAt p k) y) (flat (targAt g l) y) * w y)
      = blk fun r n => sq (p (ix3 r k n)) (g (ix3 r l n)) * w (ix2 r n) := by
  rw [tot_read]
  exact blk_congr fun r n => by rw [flat_read, flat_read]; rfl

/-- What a step adds to the confidence sum. -/
theorem step_conf : (step p g a).conf = a.conf + blk fun r n =>
    sq (Ideal.logistic (p (ix3 r 0 n))) (g (ix3 r 0 n)) * (five * above (g (ix3 r 0 n)) + near (g (ix3 r 0 n))) := by
  refine Eq.trans (show _ = a.conf + tot (fun y => sq (Ideal.logistic (flat (predAt p 0) y)) (flat (targAt g 0) y)
    * (Ideal.ofBits .f32 0x40A00000#32 * k0_pay4 (F := Ideal) (targAt g 0) y + none (targAt g 0) y)) from rfl) ?_
  rw [tot_read, ofBits_5]
  exact congrArg _ (blk_congr fun r n => by rw [flat_read, flat_read, mask_read, none_read]; rfl)

/-- What a step adds to the count of objects. -/
theorem step_pos : (step p g a).pos = a.pos + blk fun r n => above (g (ix3 r 0 n)) := by
  refine Eq.trans (show _ = a.pos + tot (k0_pay4 (F := Ideal) (targAt g 0)) from rfl) ?_
  rw [tot_read]
  exact congrArg _ (blk_congr fun r n => by rw [mask_read]; rfl)

/-- What a step adds to the class sum. -/
theorem step_cls : (step p g a).cls = a.cls + blk fun r n =>
    bce (p (ix3 r 1 n)) (g (ix3 r 1 n)) * above (g (ix3 r 0 n)) + bce (p (ix3 r 2 n)) (g (ix3 r 2 n)) * above (g (ix3 r 0 n))
      + bce (p (ix3 r 3 n)) (g (ix3 r 3 n)) * above (g (ix3 r 0 n)) := by
  refine Eq.trans (show _ = a.cls + (((Ideal.ofBits .f32 0x00000000#32
      + tot (fun y => kbce (flat (predAt p 1) y) (flat (targAt g 1) y) * k0_pay4 (F := Ideal) (targAt g 0) y))
      + tot (fun y => kbce (flat (predAt p 2) y) (flat (targAt g 2) y) * k0_pay4 (F := Ideal) (targAt g 0) y))
      + tot (fun y => kbce (flat (predAt p 3) y) (flat (targAt g 3) y) * k0_pay4 (F := Ideal) (targAt g 0) y)) from rfl) ?_
  rw [Ideal.ofBits_zero_f32, zero_add, tot_bce, tot_bce, tot_bce, blk_add, blk_add]
  exact congrArg _ (blk_congr fun r n => by rw [mask_read]; rfl)

/-- What a step adds to the position sum. -/
theorem step_xy : (step p g a).xy = a.xy + blk fun r n =>
    bce (p (ix3 r 4 n)) (g (ix3 r 4 n)) * (above (g (ix3 r 0 n)) * g (ix3 r 8 n))
      + bce (p (ix3 r 5 n)) (g (ix3 r 5 n)) * (above (g (ix3 r 0 n)) * g (ix3 r 8 n)) := by
  refine Eq.trans (show _ = a.xy + ((Ideal.ofBits .f32 0x00000000#32
      + tot (fun y => kbce (flat (predAt p 4) y) (flat (targAt g 4) y) * weighted (F := Ideal) g y))
      + tot (fun y => kbce (flat (predAt p 5) y) (flat (targAt g 5) y) * weighted (F := Ideal) g y)) from rfl) ?_
  rw [Ideal.ofBits_zero_f32, zero_add, tot_bce, tot_bce, blk_add]
  exact congrArg _ (blk_congr fun r n => by rw [weighted_read])

/-- What a step adds to the size sum. -/
theorem step_wh : (step p g a).wh = a.wh + blk fun r n =>
    sq (p (ix3 r 6 n)) (g (ix3 r 6 n)) * (above (g (ix3 r 0 n)) * g (ix3 r 8 n))
      + sq (p (ix3 r 7 n)) (g (ix3 r 7 n)) * (above (g (ix3 r 0 n)) * g (ix3 r 8 n)) := by
  refine Eq.trans (show _ = a.wh + ((Ideal.ofBits .f32 0x00000000#32
      + tot (fun y => sq (flat (predAt p 6) y) (flat (targAt g 6) y) * weighted (F := Ideal) g y))
      + tot (fun y => sq (flat (predAt p 7) y) (flat (targAt g 7) y) * weighted (F := Ideal) g y)) from rfl) ?_
  rw [Ideal.ofBits_zero_f32, zero_add, tot_sq, tot_sq, blk_add]
  exact congrArg _ (blk_congr fun r n => by rw [weighted_read])

/-- The loss from the running sums. -/
theorem total_read : total a = Ideal.div (a.conf + a.xy + a.wh) batch + Ideal.div a.cls (max a.pos 1) := by
  refine Eq.trans (show _ = Ideal.div (a.conf + a.xy + a.wh) (Ideal.ofBits .f32 0x43000000#32)
    + Ideal.div a.cls (max a.pos (Ideal.ofBits .f32 0x3F800000#32)) from rfl) ?_
  rw [ofBits_128, Ideal.ofBits_one_f32]

end Cert.KernelIdeal.Loss

end
-- ==== Proof.LossData.lean ====
/-
  The two argument arrays as the loss reads them: prediction channel `k` and target channel `k` of anchor `n` of image `b`.
-/
module

public import proofs.«01_k».proof.Proof.LossMath
public import Idealize.ShloMosaic.Lib.Pointwise.Index
public import Idealize.ShloMosaic.Lib.Pipeline.Value

@[expose] public section

noncomputable section

namespace Cert.LossMath

open Idealize.ShloMosaic

/-- The predictions with the channel, the anchor box and the cell on axes of their own is the same array cut differently. -/
theorem cut : Shape.ShapeCasts ⟨4, ![128, 40, 52, 52]⟩ ⟨4, ![128, 8, 5, 2704]⟩ := by decide

/-- Prediction channel `k` of anchor `n` of image `b`: anchor `n` is box `n % 5` of cell `n / 5`. -/
def preds (x0 : (⟨4, ![128, 40, 52, 52]⟩ : Shape).Idx → EReal) (b : Fin 128) (n : Fin 13520) (k : Fin 8) : EReal :=
  shapeCast ⟨4, ![128, 8, 5, 2704]⟩ x0 cut (ix4 b k ⟨n.val % 5, Nat.mod_lt _ (by norm_num)⟩ ⟨n.val / 5, by have := n.isLt; omega⟩)

/-- Target channel `k` of anchor `n` of image `b`. -/
def targs (x1 : (⟨3, ![128, 13520, 13]⟩ : Shape).Idx → EReal) (b : Fin 128) (n : Fin 13520) (k : Fin 13) : EReal :=
  x1 (ix3 b n k)

/-- Every label of the array is one the loss knows. -/
def AllKnown (x1 : (⟨3, ![128, 13520, 13]⟩ : Shape).Idx → EReal) : Prop :=
  ∀ b n, Known (targs x1 b n 0) (targs x1 b n 8)

end Cert.LossMath

end
-- ==== Proof.KernelIdealValue.lean ====
/-
  The loss kernel's result at the extended reals: its running sums over all grid steps are sums over all anchors, so its
  result is the loss gathered in one pass.
-/
module

public import proofs.«01_k».proof.Proof.KernelIdealFrame
public import proofs.«01_k».proof.Proof.KernelIdealSums
public import proofs.«01_k».proof.Proof.LossData
public import Idealize.ShloMosaic.Lib.Pipeline.ValueKit
public import Idealize.ShloMosaic.Lib.Pointwise.Sums

@[expose] public section

set_option maxRecDepth 16384

noncomputable section

namespace Cert.KernelIdeal.Loss

open Cert.KernelIdeal Cert.KernelIdeal.Gen Idealize.ShloMosaic Idealize.ShloMosaic.TcCoe Idealize.SL.Sem Cert.LossMath
open Idealize.ShloMosaic.Pipeline (Dat Cfg Window)

variable (m : (ℓ : Loc nD τ sig) → Buf (Elt Ideal) ℓ) (c : Dev nD)

/-! ## What the host hands the kernel -/

/-- The predictions as the host rearranges them: image, channel, anchor. -/
theorem host_preds : V m c main_v2 = shapeCast S128x8x13520
    (transpose (t := S128x8x2704x5) [0, 1, 3, 2] (shapeCast S128x8x5x2704 (m ((c.tc : Thread nD τ).loc main_arg0))
      shapeCasts_S128x40x52x52_S128x8x5x2704) transposes_S128x8x5x2704_S128x8x2704x5_0_1_3_2) shapeCasts_S128x8x2704x5_S128x8x13520 := by
  entry_read
  rfl

/-- The targets as the host rearranges them: image, channel, anchor. -/
theorem host_targs : V m c main_v3 = transpose (t := S128x13x13520) [0, 2, 1] (m ((c.tc : Thread nD τ).loc main_arg1))
    transposes_S128x13520x13_S128x13x13520_0_2_1 := by
  entry_read
  rfl

/-! ## The blocks of a grid step -/

/-- The first image of a grid step's block is the step's position on the predictions' block axis. -/
theorem idx_P : ∀ t : Fin cfg0.N, (cfg0.win 0).index t = ![t.val, 0, 0] := by decide +kernel

/-- The same for the targets. -/
theorem idx_G : ∀ t : Fin cfg0.N, (cfg0.win 1).index t = ![t.val, 0, 0] := by decide +kernel

/-- The image that is number `r` of grid step `t`. -/
def image (t : Fin cfg0.N) (r : Fin 4) : Fin 128 :=
  ⟨t.val * 4 + r.val, by have h : t.val < 32 := Nat.lt_of_lt_of_eq t.isLt N_0; have := r.isLt; omega⟩

/-- The predictions' block of a step holds the step's four images. -/
theorem block_preds (t : Fin cfg0.N) (r : Fin 4) (k : Fin 8) (n : Fin 13520) :
    iblk m c 0 t (ix3 r k n) = preds (m ((c.tc : Thread nD τ).loc main_arg0)) (image t r) n k := by
  have e : ((cfg0.win 0).blk t).view.emb (ix3 r k n) = ix3 (image t r) k n := by
    blk_ext [idx_P t, image]
  refine Eq.trans (show _ = V m c main_v2 (((cfg0.win 0).blk t).view.emb (ix3 r k n)) from rfl) ?_
  rw [e, host_preds]
  have hn := n.isLt
  rw [shapeCast_apply _ shapeCasts_S128x8x2704x5_S128x8x13520 (ix3 (image t r) k n)
    (ix4 (image t r) k ⟨n.val / 5, by omega⟩ ⟨n.val % 5, Nat.mod_lt _ (by norm_num)⟩)
    (by rw [Shape.rowMajor_val_four, Shape.rowMajor_val_three]
        show (((image t r).val * 8 + k.val) * 2704 + n.val / 5) * 5 + n.val % 5 = ((image t r).val * 8 + k.val) * 13520 + n.val
        omega)]
  exact transpose_apply _ _ _ _ (ix4 (image t r) k ⟨n.val % 5, Nat.mod_lt _ (by norm_num)⟩ ⟨n.val / 5, by omega⟩)
    (fun b => by match b with | ⟨0, _⟩ => rfl | ⟨1, _⟩ => rfl | ⟨2, _⟩ => rfl | ⟨3, _⟩ => rfl)

/-- The targets' block of a step holds the step's four images. -/
theorem block_targs (t : Fin cfg0.N) (r : Fin 4) (k : Fin 13) (n : Fin 13520) :
    iblk m c 1 t (ix3 r k n) = targs (m ((c.tc : Thread nD τ).loc main_arg1)) (image t r) n k := by
  have e : ((cfg0.win 1).blk t).view.emb (ix3 r k n) = ix3 (image t r) k n := by
    blk_ext [idx_G t, image]
  refine Eq.trans (show _ = V m c main_v3 (((cfg0.win 1).blk t).view.emb (ix3 r k n)) from rfl) ?_
  rw [e, host_targs]
  exact transpose_apply _ _ _ _ (ix3 (image t r) n k)
    (fun b => by match b with | ⟨0, _⟩ => rfl | ⟨1, _⟩ => rfl | ⟨2, _⟩ => rfl)

/-! ## The running sums over all steps -/

/-- A running sum that starts at zero and grows by what each step adds is, after the last step, the sum of what the
steps add. -/
theorem acc_sum (π : Acc Ideal → EReal) (d : Fin cfg0.N → EReal) (h0 : π Acc.zero = 0)
    (hs : ∀ t a, π (step (iblk m c 0 t) (iblk m c 1 t) a) = π a + d t) : π (acc m c cfg0.N) = ∑ t, d t := by
  have key : ∀ n ≤ cfg0.N, π (acc m c n) = ∑ i ∈ Finset.range n, if h : i < cfg0.N then d ⟨i, h⟩ else 0 := by
    intro n
    induction n with
    | zero => intro _; simpa [acc] using h0
    | succ n ih =>
      intro hn
      rw [Finset.sum_range_succ, ← ih (by omega), dif_pos (show n < cfg0.N by omega)]
      rw [acc_succ m c ⟨n, by omega⟩, hs]
  rw [key _ le_rfl, Finset.sum_range]
  exact Finset.sum_congr rfl fun t _ => dif_pos t.isLt

/-- Sums over the blocks of all steps add up to the sum over all anchors. -/
theorem steps_all (f : Fin 128 → Fin 13520 → EReal) : (∑ t : Fin cfg0.N, blk fun r n => f (image t r) n) = all f := by
  unfold all
  rw [Fin.sum_univ_tiles 32 4 (by norm_num) fun b => ∑ n, f b n]
  exact Fintype.sum_equiv (finCongr N_0) _ _ fun t => rfl

/-- The predictions the program was given, per anchor. -/
abbrev pr : Fin 128 → Fin 13520 → Fin 8 → EReal := preds (m ((c.tc : Thread nD τ).loc main_arg0))

/-- The targets the program was given, per anchor. -/
abbrev tg : Fin 128 → Fin 13520 → Fin 13 → EReal := targs (m ((c.tc : Thread nD τ).loc main_arg1))

/-- The zero a running sum starts at. -/
theorem start_zero : (Scalar.ofBits (F := Ideal) .f32 0x00000000#32 : EReal) = 0 := Ideal.ofBits_zero_f32

/-- The confidence sum after the last step. -/
theorem acc_conf : (acc m c cfg0.N).conf = gConf (pr m c) (tg m c) := by
  refine (acc_sum m c Acc.conf _ start_zero fun t a => step_conf _ _ a).trans ?_
  simp only [block_preds, block_targs]
  exact steps_all fun b n => conf (pr m c) (tg m c) b n * (five * above (tg m c b n 0) + near (tg m c b n 0))

/-- The count of objects after the last step. -/
theorem acc_pos : (acc m c cfg0.N).pos = gPos (tg m c) := by
  refine (acc_sum m c Acc.pos _ start_zero fun t a => step_pos _ _ a).trans ?_
  simp only [block_targs]
  exact steps_all fun b n => above (tg m c b n 0)

/-- The class sum after the last step. -/
theorem acc_cls : (acc m c cfg0.N).cls = gCls (pr m c) (tg m c) := by
  refine (acc_sum m c Acc.cls _ start_zero fun t a => step_cls _ _ a).trans ?_
  simp only [block_preds, block_targs]
  exact steps_all fun b n => bce (pr m c b n 1) (tg m c b n 1) * above (tg m c b n 0) + bce (pr m c b n 2) (tg m c b n 2) * above (tg m c b n 0)
    + bce (pr m c b n 3) (tg m c b n 3) * above (tg m c b n 0)

/-- The position sum after the last step. -/
theorem acc_xy : (acc m c cfg0.N).xy = gXy (pr m c) (tg m c) := by
  refine (acc_sum m c Acc.xy _ start_zero fun t a => step_xy _ _ a).trans ?_
  simp only [block_preds, block_targs]
  exact steps_all fun b n => bce (pr m c b n 4) (tg m c b n 4) * (above (tg m c b n 0) * tg m c b n 8)
    + bce (pr m c b n 5) (tg m c b n 5) * (above (tg m c b n 0) * tg m c b n 8)

/-- The size sum after the last step. -/
theorem acc_wh : (acc m c cfg0.N).wh = gWh (pr m c) (tg m c) := by
  refine (acc_sum m c Acc.wh _ start_zero fun t a => step_wh _ _ a).trans ?_
  simp only [block_preds, block_targs]
  exact steps_all fun b n => sq (pr m c b n 6) (tg m c b n 6) * (above (tg m c b n 0) * tg m c b n 8)
    + sq (pr m c b n 7) (tg m c b n 7) * (above (tg m c b n 0) * tg m c b n 8)

/-- The loss from the running sums after the last step. -/
theorem total_acc : total (acc m c cfg0.N) = gathered (pr m c) (tg m c) := by
  rw [total_read, acc_conf, acc_pos, acc_cls, acc_xy, acc_wh]; rfl

/-! ## The result array -/

/-- The result array after the run holds the loss from the running sums after the last step. -/
theorem out_arr : (dats m 0 c).arrAt 2 cfg0.N = fun _ => total (acc m c cfg0.N) := by
  refine (dats m 0 c).arrAt_eq_of_covers 2 _ (by decide +kernel) fun t hf y => ?_
  have ht : t.val < 32 := Nat.lt_of_lt_of_eq t.isLt N_0
  have h31 := (flush0_2 t).mp hf
  have hn : t.val + 1 = cfg0.N := by rw [show cfg0.N = 32 from N_0]; omega
  rw [after_O, hn]
  rfl

/-- The kernel ends with its result at the gathered loss and its arguments unchanged. -/
theorem value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4)
          = (fun _ => gathered (preds (m ((c.tc : Thread nD τ).loc main_arg0))) (targs (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun r h c => ⟨((h.1 c).1 2).trans ((out_arr m c).trans (funext fun _ => total_acc m c)), h.2.1 c⟩)
    (θ_run_and ((θ_run defs _ _).mono (fun _ h => h.1) (run m ρ)) (quiet m ρ))

end Cert.KernelIdeal.Loss

end
-- ==== Proof.ReferenceRun.lean ====
/-
  The reference's run: it ends with its arguments unchanged and every semaphore counter at zero.
-/
module

public import proofs.«01_k».proof.Proof.Gen.ReferenceIdeal.Run
public import Idealize.ShloMosaic.Lib.Claim
public import Idealize.ShloMosaic.Lib.Quiescent

@[expose] public section

noncomputable section

namespace Cert.ReferenceIdeal.Loss

open Cert.ReferenceIdeal Cert.ReferenceIdeal.Gen Idealize.ShloMosaic Idealize.ShloMosaic.TcCoe Idealize.SL.Sem

variable {F : FTy → Type} [FloatOps F]

/-- The reference has no semaphore at all, so a final state has every counter at zero. -/
theorem quiet (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems rfl r.2⟩) (Cert.ReferenceIdeal.Value.run m ρ)

end Cert.ReferenceIdeal.Loss

end
-- ==== Proof.ReferenceValue.lean ====
/-
  The reference's result at the extended reals: the loss as the mathematics writes it.
-/
module

public import proofs.«01_k».proof.Proof.Gen.ReferenceIdeal.Read
public import proofs.«01_k».proof.Proof.ReferenceRun
public import proofs.«01_k».proof.Proof.LossData

@[expose] public section

set_option maxRecDepth 4096

noncomputable section

namespace Cert.ReferenceIdeal.Loss

open Cert.ReferenceIdeal Cert.ReferenceIdeal.Gen Cert.ReferenceIdeal.Read Idealize.ShloMosaic Idealize.ShloMosaic.TcCoe
open Idealize.SL.Sem Cert.LossMath

variable (x0 : (⟨S128x40x52x52, .f32⟩ : BufTy).Contents (Elt Ideal)) (x1 : (⟨S128x13520x13, .f32⟩ : BufTy).Contents (Elt Ideal))

/-- The rearranged predictions hold channel `k` of anchor `n` at `(b, n, k)`. -/
theorem pred_read (b : Fin 128) (n : Fin 13520) (k : Fin 8) : val_main_v2 (F := Ideal) x0 (ix3 b n k) = preds x0 b n k := by
  rw [val_main_v2_apply, val_main_v1_apply]
  unfold preds val_main_v0
  refine congrArg _ (funext fun a => Fin.ext ?_)
  have := b.isLt; have := n.isLt; have := k.isLt
  match a with
  | ⟨0, _⟩ => show ((b.val * 13520 + n.val) * 8 + k.val) / 108160 = b.val; omega
  | ⟨1, _⟩ => show ((b.val * 13520 + n.val) * 8 + k.val) % 8 = k.val; omega
  | ⟨2, _⟩ => show ((b.val * 13520 + n.val) * 8 + k.val) / 8 % 5 = n.val % 5; omega
  | ⟨3, _⟩ => show ((b.val * 13520 + n.val) * 8 + k.val) / 40 % 2704 = n.val / 5; omega

/-- Prediction channel 0, sliced out. -/
theorem v4_read (b : Fin 128) (n : Fin 13520) : val_main_v4 (F := Ideal) x0 (ix2 b n) = preds x0 b n 0 := by
  rw [val_main_v4_apply, val_main_v3_apply, ← pred_read]
  refine congrArg _ (funext fun a => Fin.ext ?_)
  have := b.isLt; have := n.isLt
  match a with
  | ⟨0, _⟩ => show (b.val * 13520 + n.val) / 13520 = b.val; omega
  | ⟨1, _⟩ => show (b.val * 13520 + n.val) / 1 % 13520 = n.val; omega
  | ⟨2, _⟩ => rfl

/-- Target channel 0, sliced out. -/
theorem v12_read (b : Fin 128) (n : Fin 13520) : val_main_v12 (F := Ideal) x1 (ix2 b n) = targs x1 b n 0 := by
  rw [val_main_v12_apply, val_main_v11_apply]
  refine congrArg x1 (funext fun a => Fin.ext ?_)
  have := b.isLt; have := n.isLt
  match a with
  | ⟨0, _⟩ => show (b.val * 13520 + n.val) / 13520 = b.val; omega
  | ⟨1, _⟩ => show (b.val * 13520 + n.val) / 1 % 13520 = n.val; omega
  | ⟨2, _⟩ => rfl

/-- Target channel 8, sliced out. -/
theorem v14_read (b : Fin 128) (n : Fin 13520) : val_main_v14 (F := Ideal) x1 (ix2 b n) = targs x1 b n 8 := by
  rw [val_main_v14_apply, val_main_v13_apply]
  refine congrArg x1 (funext fun a => Fin.ext ?_)
  have := b.isLt; have := n.isLt
  match a with
  | ⟨0, _⟩ => show (b.val * 13520 + n.val) / 13520 = b.val; omega
  | ⟨1, _⟩ => show (b.val * 13520 + n.val) / 1 % 13520 = n.val; omega
  | ⟨2, _⟩ => rfl

/-- A truth value as a number: 1 where it holds, 0 where it does not. -/
theorem bit_real (p : Prop) [Decidable p] : (((BitVec.ofBool (decide p)).toNat : ℝ) : EReal) = if p then 1 else 0 := by
  by_cases h : p <;> simp [h]

/-- The mask of anchors with an object. -/
theorem v17_read (b : Fin 128) (n : Fin 13520) : val_main_v17 (F := Ideal) x1 (ix2 b n) = one (targs x1 b n 0) := by
  rw [val_main_v17_apply, val_main_v16_apply, v12_read, val_main_v15_apply]
  show (((Ideal.cmp .oeq (targs x1 b n 0) (Ideal.ofBits .f32 0x3F800000#32)).toNat : ℝ) : EReal) = _
  rw [Ideal.ofBits_one_f32]
  exact bit_real _

/-- The mask of anchors with none. -/
theorem v20_read (b : Fin 128) (n : Fin 13520) : val_main_v20 (F := Ideal) x1 (ix2 b n) = zer (targs x1 b n 0) := by
  rw [val_main_v20_apply, val_main_v19_apply, v12_read, val_main_v18_apply]
  show (((Ideal.cmp .oeq (targs x1 b n 0) (Ideal.ofBits .f32 0x00000000#32)).toNat : ℝ) : EReal) = _
  rw [Ideal.ofBits_zero_f32]
  exact bit_real _

/-- The squared error of the confidence. -/
theorem v22_read (b : Fin 128) (n : Fin 13520) : val_main_v22 (F := Ideal) x0 x1 (ix2 b n) = conf (preds x0) (targs x1) b n := by
  have h10 : val_main_v10 (F := Ideal) x0 (ix2 b n) = Ideal.logistic (preds x0 b n 0) := by
    rw [val_main_v10_apply, val_main_v9_apply, val_main_v8_apply, val_main_v7_apply, val_main_v6_apply, val_main_v5_apply, v4_read]
    show Ideal.div (Ideal.ofBits .f32 0x3F800000#32) (Ideal.ofBits .f32 0x3F800000#32 + Ideal.exp (-(preds x0 b n 0))) = _
    rw [Ideal.ofBits_one_f32]; rfl
  rw [val_main_v22_apply, val_main_v21_apply, h10, v12_read]
  rfl

/-- The cross entropy of the class channels: channel `1 + k`. -/
theorem v43_read (b : Fin 128) (n : Fin 13520) (k : Fin 3) :
    val_main_v43 (F := Ideal) x0 x1 (ix3 b n k) = bce (preds x0 b n ⟨1 + k.val, by omega⟩) (targs x1 b n ⟨1 + k.val, by omega⟩) := by
  have h33 : val_main_v33 (F := Ideal) x0 (ix3 b n k) = preds x0 b n ⟨1 + k.val, by omega⟩ := by
    rw [val_main_v33_apply, ← pred_read]
    exact congrArg _ (funext fun a => Fin.ext (by match a with | ⟨0, _⟩ => rfl | ⟨1, _⟩ => rfl | ⟨2, _⟩ => rfl))
  have h34 : val_main_v34 (F := Ideal) x1 (ix3 b n k) = targs x1 b n ⟨1 + k.val, by omega⟩ := by
    rw [val_main_v34_apply]
    exact congrArg x1 (funext fun a => Fin.ext (by match a with | ⟨0, _⟩ => rfl | ⟨1, _⟩ => rfl | ⟨2, _⟩ => rfl))
  rw [val_main_v43_apply, val_main_v42_apply, val_main_v41_apply, val_main_v40_apply, val_main_v39_apply, val_main_v38_apply,
    val_main_v37_apply, val_main_v36_apply, val_main_v35_apply, h33, h34]
  generalize preds x0 b n _ = p
  generalize targs x1 b n _ = t
  show (max p (Ideal.ofBits .f32 0x00000000#32) - p * t) + Ideal.log1p (Ideal.exp (-(max p (-p)))) = _
  rw [Ideal.ofBits_zero_f32]; rfl

/-- The cross entropy of the position channels: channel `4 + k`. -/
theorem v62_read (b : Fin 128) (n : Fin 13520) (k : Fin 2) :
    val_main_v62 (F := Ideal) x0 x1 (ix3 b n k) = bce (preds x0 b n ⟨4 + k.val, by omega⟩) (targs x1 b n ⟨4 + k.val, by omega⟩) := by
  have h50 : val_main_v50 (F := Ideal) x0 (ix3 b n k) = preds x0 b n ⟨4 + k.val, by omega⟩ := by
    rw [val_main_v50_apply, ← pred_read]
    exact congrArg _ (funext fun a => Fin.ext (by match a with | ⟨0, _⟩ => rfl | ⟨1, _⟩ => rfl | ⟨2, _⟩ => rfl))
  have h52 : val_main_v52 (F := Ideal) x1 (ix3 b n k) = targs x1 b n ⟨4 + k.val, by omega⟩ := by
    rw [val_main_v52_apply]
    exact congrArg x1 (funext fun a => Fin.ext (by match a with | ⟨0, _⟩ => rfl | ⟨1, _⟩ => rfl | ⟨2, _⟩ => rfl))
  rw [val_main_v62_apply, val_main_v61_apply, val_main_v60_apply, val_main_v59_apply, val_main_v58_apply, val_main_v57_apply,
    val_main_v56_apply, val_main_v55_apply, val_main_v54_apply, h50, h52]
  generalize preds x0 b n _ = p
  generalize targs x1 b n _ = t
  show (max p (Ideal.ofBits .f32 0x00000000#32) - p * t) + Ideal.log1p (Ideal.exp (-(max p (-p)))) = _
  rw [Ideal.ofBits_zero_f32]; rfl

/-- The squared error of the size channels: channel `6 + k`. -/
theorem v70_read (b : Fin 128) (n : Fin 13520) (k : Fin 2) :
    val_main_v70 (F := Ideal) x0 x1 (ix3 b n k) = sq (preds x0 b n ⟨6 + k.val, by omega⟩) (targs x1 b n ⟨6 + k.val, by omega⟩) := by
  have h51 : val_main_v51 (F := Ideal) x0 (ix3 b n k) = preds x0 b n ⟨6 + k.val, by omega⟩ := by
    rw [val_main_v51_apply, ← pred_read]
    exact congrArg _ (funext fun a => Fin.ext (by match a with | ⟨0, _⟩ => rfl | ⟨1, _⟩ => rfl | ⟨2, _⟩ => rfl))
  have h53 : val_main_v53 (F := Ideal) x1 (ix3 b n k) = targs x1 b n ⟨6 + k.val, by omega⟩ := by
    rw [val_main_v53_apply]
    exact congrArg x1 (funext fun a => Fin.ext (by match a with | ⟨0, _⟩ => rfl | ⟨1, _⟩ => rfl | ⟨2, _⟩ => rfl))
  rw [val_main_v70_apply, val_main_v69_apply, h51, h53]
  rfl

/-- A sum that starts from the constant zero. -/
theorem zero_start (x : EReal) : Ideal.ofBits .f32 0x00000000#32 + x = x := by rw [Ideal.ofBits_zero_f32, zero_add]

/-- The class losses of an anchor, added. -/
theorem v44_read (b : Fin 128) (n : Fin 13520) : val_main_v44 (F := Ideal) x0 x1 (ix2 b n)
    = bce (preds x0 b n 1) (targs x1 b n 1) + bce (preds x0 b n 2) (targs x1 b n 2) + bce (preds x0 b n 3) (targs x1 b n 3) := by
  have hk : ∀ k : Fin 3, idx_main_v44 (ix2 b n) k = ix3 b n k := fun k =>
    funext fun a => Fin.ext (by match a with | ⟨0, _⟩ => rfl | ⟨1, _⟩ => rfl | ⟨2, _⟩ => rfl)
  rw [val_main_v44_apply]
  refine (zero_start _).trans ?_
  simp only [hk, v43_read, Fin.sum_univ_three]
  rfl

/-- The position losses of an anchor, added. -/
theorem v63_read (b : Fin 128) (n : Fin 13520) : val_main_v63 (F := Ideal) x0 x1 (ix2 b n)
    = bce (preds x0 b n 4) (targs x1 b n 4) + bce (preds x0 b n 5) (targs x1 b n 5) := by
  have hk : ∀ k : Fin 2, idx_main_v63 (ix2 b n) k = ix3 b n k := fun k =>
    funext fun a => Fin.ext (by match a with | ⟨0, _⟩ => rfl | ⟨1, _⟩ => rfl | ⟨2, _⟩ => rfl)
  rw [val_main_v63_apply]
  refine (zero_start _).trans ?_
  simp only [hk, v62_read, Fin.sum_univ_two]
  rfl

/-- The size losses of an anchor, added. -/
theorem v71_read (b : Fin 128) (n : Fin 13520) : val_main_v71 (F := Ideal) x0 x1 (ix2 b n)
    = sq (preds x0 b n 6) (targs x1 b n 6) + sq (preds x0 b n 7) (targs x1 b n 7) := by
  have hk : ∀ k : Fin 2, idx_main_v71 (ix2 b n) k = ix3 b n k := fun k =>
    funext fun a => Fin.ext (by match a with | ⟨0, _⟩ => rfl | ⟨1, _⟩ => rfl | ⟨2, _⟩ => rfl)
  rw [val_main_v71_apply]
  refine (zero_start _).trans ?_
  simp only [hk, v70_read, Fin.sum_univ_two]
  rfl

/-- Row sums added up are the sum over all anchors. -/
theorem rows (f : S128x13520.Idx → EReal) (row : S128.Idx → EReal) (h : ∀ b : Fin 128, row (ix1 b) = ∑ n, f (ix2 b n)) :
    ∑ j, row j = all fun b n => f (ix2 b n) := by
  rw [sum_idx1]; exact Finset.sum_congr rfl fun b _ => h b

/-- The confidence loss at the objects. -/
theorem v25_read (i : S_.Idx) : val_main_v25 (F := Ideal) x0 x1 i = all fun b n => conf (preds x0) (targs x1) b n * one (targs x1 b n 0) := by
  have hk : ∀ (b : Fin 128) (k : Fin 13520), idx_main_v24 (ix1 b) k = ix2 b k := fun b k =>
    funext fun a => Fin.ext (by match a with | ⟨0, _⟩ => rfl | ⟨1, _⟩ => rfl)
  rw [val_main_v25_apply]
  refine (zero_start _).trans ((rows (val_main_v23 (F := Ideal) x0 x1) _ fun b => ?_).trans (all_congr fun b n => ?_))
  · rw [val_main_v24_apply]; simp only [hk]; exact zero_start _
  · rw [val_main_v23_apply, v22_read, v17_read]; rfl

/-- The confidence loss where there is no object. -/
theorem v30_read (i : S_.Idx) : val_main_v30 (F := Ideal) x0 x1 i = all fun b n => conf (preds x0) (targs x1) b n * zer (targs x1 b n 0) := by
  have hk : ∀ (b : Fin 128) (k : Fin 13520), idx_main_v29 (ix1 b) k = ix2 b k := fun b k =>
    funext fun a => Fin.ext (by match a with | ⟨0, _⟩ => rfl | ⟨1, _⟩ => rfl)
  rw [val_main_v30_apply]
  refine (zero_start _).trans ((rows (val_main_v28 (F := Ideal) x0 x1) _ fun b => ?_).trans (all_congr fun b n => ?_))
  · rw [val_main_v29_apply]; simp only [hk]; exact zero_start _
  · rw [val_main_v28_apply, v22_read, v20_read]; rfl

/-- The number of objects. -/
theorem v45_read (i : S_.Idx) : val_main_v45 (F := Ideal) x1 i = all fun b n => one (targs x1 b n 0) := by
  rw [val_main_v45_apply]
  refine (zero_start _).trans ?_
  rw [sum_idx2]
  exact all_congr fun b n => v17_read x1 b n

/-- The class loss at the objects. -/
theorem v48_read (i : S_.Idx) : val_main_v48 (F := Ideal) x0 x1 i
    = all fun b n => (bce (preds x0 b n 1) (targs x1 b n 1) + bce (preds x0 b n 2) (targs x1 b n 2)
        + bce (preds x0 b n 3) (targs x1 b n 3)) * one (targs x1 b n 0) := by
  rw [val_main_v48_apply]
  refine (zero_start _).trans ?_
  rw [sum_idx2]
  exact all_congr fun b n => by rw [val_main_v47_apply, v44_read, v17_read]; rfl

/-- The weighted position loss at the objects. -/
theorem v67_read (i : S_.Idx) : val_main_v67 (F := Ideal) x0 x1 i
    = all fun b n => (bce (preds x0 b n 4) (targs x1 b n 4) + bce (preds x0 b n 5) (targs x1 b n 5)) * one (targs x1 b n 0) * targs x1 b n 8 := by
  have hk : ∀ (b : Fin 128) (k : Fin 13520), idx_main_v66 (ix1 b) k = ix2 b k := fun b k =>
    funext fun a => Fin.ext (by match a with | ⟨0, _⟩ => rfl | ⟨1, _⟩ => rfl)
  rw [val_main_v67_apply]
  refine (zero_start _).trans ((rows (val_main_v65 (F := Ideal) x0 x1) _ fun b => ?_).trans (all_congr fun b n => ?_))
  · rw [val_main_v66_apply]; simp only [hk]; exact zero_start _
  · rw [val_main_v65_apply, val_main_v64_apply, v63_read, v17_read, v14_read]; rfl

/-- The weighted size loss at the objects. -/
theorem v75_read (i : S_.Idx) : val_main_v75 (F := Ideal) x0 x1 i
    = all fun b n => (sq (preds x0 b n 6) (targs x1 b n 6) + sq (preds x0 b n 7) (targs x1 b n 7)) * one (targs x1 b n 0) * targs x1 b n 8 := by
  have hk : ∀ (b : Fin 128) (k : Fin 13520), idx_main_v74 (ix1 b) k = ix2 b k := fun b k =>
    funext fun a => Fin.ext (by match a with | ⟨0, _⟩ => rfl | ⟨1, _⟩ => rfl)
  rw [val_main_v75_apply]
  refine (zero_start _).trans ((rows (val_main_v73 (F := Ideal) x0 x1) _ fun b => ?_).trans (all_congr fun b n => ?_))
  · rw [val_main_v74_apply]; simp only [hk]; exact zero_start _
  · rw [val_main_v73_apply, val_main_v72_apply, v71_read, v17_read, v14_read]; rfl

/-- The loss before it is given its one axis. -/
theorem v80_read (i : S_.Idx) : val_main_v80 (F := Ideal) x0 x1 i = written (preds x0) (targs x1) := by
  rw [val_main_v80_apply, val_main_v79_apply, val_main_v78_apply, val_main_v77_apply, val_main_v76_apply, val_main_v68_apply,
    val_main_v49_apply, val_main_v46_apply, val_main_v32_apply, val_main_v31_apply, val_main_v27_apply, val_main_v26_apply,
    v25_read, v30_read, v45_read, v48_read, v67_read, v75_read]
  unfold written
  rw [← ofBits_128, ← ofBits_5, ← Ideal.ofBits_one_f32]
  rfl

/-- The reference's result, as a function of the argument arrays. -/
theorem value : val_main_v81 (F := Ideal) x0 x1 = fun _ => written (preds x0) (targs x1) := by
  funext i
  unfold val_main_v81 shapeCast
  exact v80_read x0 x1 _

/-- The reference ends with its result at the written loss and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v81)
          = (fun _ => written (preds (m ((c.tc : Thread nD τ).loc main_arg0))) (targs (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1.trans (val_main_v81_eq m c)).trans (value _ _), (h c).2⟩)
    (Cert.ReferenceIdeal.Value.run m ρ)

end Cert.ReferenceIdeal.Loss

end
-- ==== Proof.Labels.lean ====
/-
  The precondition `labelled`, read at each anchor.
-/
module

public import proofs.«01_k».proof.Pre_labelled
public import proofs.«01_k».proof.Proof.LossData

@[expose] public section

noncomputable section

namespace Cert.Pre_labelled.Loss

open Cert.Pre_labelled Idealize.ShloMosaic Cert.LossMath

/-- The shape facts the precondition's operations take. -/
theorem facts : Cert.Pre_labelled.Facts where
  slices_S128x13520x13_S128x13520x1_0_0_0 := by decide
  shapeCasts_S128x13520x1_S128x13520 := by decide
  slices_S128x13520x13_S128x13520x1_0_0_8 := by decide
  bcast_S_S128x13520 := by decide

/-- Channel 0 of the targets, as the precondition slices it. -/
theorem conf_read (x1 : FVec Ideal S128x13520x13 .f32) (hs : S128x13520x13.Slices ![0, 0, 0] S128x13520x1)
    (hc : S128x13520x1.ShapeCasts S128x13520) (b : Fin 128) (n : Fin 13520) :
    shapeCast S128x13520 (extractStridedSlice S128x13520x1 ![0, 0, 0] x1 hs) hc (ix2 b n) = targs x1 b n 0 := by
  rw [shapeCast_apply _ hc (ix2 b n) (ix3 b n 0) (by rw [Shape.rowMajor_val_three, Shape.rowMajor_val_two]; simp)]
  exact extractStridedSlice_apply ![0, 0, 0] x1 hs (ix3 b n 0) (ix3 b n 0) (fun a => match a with
    | ⟨0, _⟩ => by show b.val = 0 + b.val; omega
    | ⟨1, _⟩ => by show n.val = 0 + n.val; omega
    | ⟨2, _⟩ => rfl)

/-- Channel 8 of the targets, as the precondition slices it. -/
theorem weight_read (x1 : FVec Ideal S128x13520x13 .f32) (hs : S128x13520x13.Slices ![0, 0, 8] S128x13520x1)
    (hc : S128x13520x1.ShapeCasts S128x13520) (b : Fin 128) (n : Fin 13520) :
    shapeCast S128x13520 (extractStridedSlice S128x13520x1 ![0, 0, 8] x1 hs) hc (ix2 b n) = targs x1 b n 8 := by
  rw [shapeCast_apply _ hc (ix2 b n) (ix3 b n 0) (by rw [Shape.rowMajor_val_three, Shape.rowMajor_val_two]; simp)]
  exact extractStridedSlice_apply ![0, 0, 8] x1 hs (ix3 b n 0) (ix3 b n 8) (fun a => match a with
    | ⟨0, _⟩ => by show b.val = 0 + b.val; omega
    | ⟨1, _⟩ => by show n.val = 0 + n.val; omega
    | ⟨2, _⟩ => rfl)

/-- Two truth values joined by `and` are 1 exactly when both are. -/
theorem and_bit : ∀ a b : BitVec 1, a &&& b = 1#1 ↔ a = 1#1 ∧ b = 1#1 := by decide

/-- Two truth values joined by `or` are 1 exactly when one is. -/
theorem or_bit : ∀ a b : BitVec 1, a ||| b = 1#1 ↔ a = 1#1 ∨ b = 1#1 := by decide

/-- A decided proposition's truth value is 1 exactly when it holds. -/
theorem bit_iff (p : Prop) [Decidable p] : BitVec.ofBool (decide p) = 1#1 ↔ p := by
  by_cases h : p <;> simp [h]

/-- The precondition at one anchor, as truth values of comparisons. -/
theorem fn_read [Facts] (x0 : FVec Ideal S128x40x52x52 .f32) (x1 : FVec Ideal S128x13520x13 .f32) (b : Fin 128) (n : Fin 13520) :
    fn (F := Ideal) x0 x1 (ix2 b n)
      = ((((Ideal.cmp .oeq (targs x1 b n 0) (Ideal.ofBits .f32 0x3F800000#32) ||| Ideal.cmp .oeq (targs x1 b n 0) (Ideal.ofBits .f32 0x00000000#32))
          ||| Ideal.cmp .ole (targs x1 b n 0) (Ideal.ofBits .f32 0xBF000000#32))
          &&& Ideal.cmp .oge (targs x1 b n 8) (Ideal.ofBits .f32 0x00000000#32))
          &&& Ideal.cmp .olt (targs x1 b n 8) (Ideal.ofBits .f32 0x7F800000#32)) := by
  rw [← conf_read x1 Facts.slices_S128x13520x13_S128x13520x1_0_0_0 Facts.shapeCasts_S128x13520x1_S128x13520,
    ← weight_read x1 Facts.slices_S128x13520x13_S128x13520x1_0_0_8 Facts.shapeCasts_S128x13520x1_S128x13520]
  rfl

/-- Where the precondition holds everywhere, every label is one the loss knows. -/
theorem known [Facts] (x0 : FVec Ideal S128x40x52x52 .f32) (x1 : FVec Ideal S128x13520x13 .f32)
    (h : fn (F := Ideal) x0 x1 = fun _ => 1#1) : AllKnown x1 := fun b n => by
  have h1 := congrFun h (ix2 b n)
  rw [fn_read, and_bit, and_bit, or_bit, or_bit, ofBits_neg_half, ofBits_inf, Ideal.ofBits_zero_f32, Ideal.ofBits_one_f32] at h1
  unfold Ideal.cmp at h1
  simp only [bit_iff] at h1
  obtain ⟨⟨hc, hw⟩, ht⟩ := h1
  exact ⟨by tauto, hw, ht.ne⟩

end Cert.Pre_labelled.Loss

end
-- ==== Proof.lean ====
/- The certificate of the YOLO loss: the frames of the three programs, and the equation between the
   kernel's loss and the reference's over the extended reals. The parts are proved in the modules under
   Proof/; this file puts them together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelFrame
public import proofs.«01_k».proof.Proof.KernelIdealFrame
public import proofs.«01_k».proof.Proof.KernelIdealValue
public import proofs.«01_k».proof.Proof.ReferenceRun
public import proofs.«01_k».proof.Proof.ReferenceValue
public import proofs.«01_k».proof.Proof.Labels

@[expose] public section

noncomputable section

namespace Cert.Proof

open Idealize.ShloMosaic Idealize.SL.Sem

/-- Over the extended reals, on targets that `labelled` admits, the kernel and the reference end with the
    same loss: the kernel's is `gathered`, the sums over blocks of images with weights 5 and 1 folded into
    one confidence sum, the reference's is `written`, the five means added up, and the two are equal. -/
theorem same_loss :
    letI := Cert.KernelIdeal.Gen.facts
    letI := Cert.ReferenceIdeal.Gen.facts
    letI := Cert.Pre_labelled.Loss.facts
    Cert.algebraic_KernelIdeal_ReferenceIdeal_pre_labelled := by
  letI := Cert.KernelIdeal.Gen.facts
  letI := Cert.ReferenceIdeal.Gen.facts
  letI := Cert.Pre_labelled.Loss.facts
  intro m g m' g' hpre hargs
  refine ⟨_, Cert.KernelIdeal.Loss.value m g,
    (θ_run _ _ _).mono (fun r h c => ⟨(h c).1.trans ?_, (h c).2⟩) (Cert.ReferenceIdeal.Loss.run m' g')⟩
  rw [(hargs c).1, (hargs c).2]
  exact funext fun _ =>
    (Cert.LossMath.gathered_eq_written (Cert.Pre_labelled.Loss.known _ _ (hpre c))).symm

/-- The five claims: each program ends without fault, with its arguments unchanged and its semaphores at
    zero; the ideal kernel is the kernel read over the extended reals; and it computes the reference's loss. -/
theorem claim : Cert.Claim :=
  ⟨Cert.Kernel.Gen.facts, Cert.KernelIdeal.Gen.facts, Cert.ReferenceIdeal.Gen.facts,
    Cert.Pre_labelled.Loss.facts,
    fun m g _ => Cert.Kernel.Loss.quiet m g,
    fun m g _ => Cert.KernelIdeal.Loss.quiet m g,
    fun m g _ => Cert.KernelIdeal.Loss.quiet m g,
    fun m g _ => Cert.ReferenceIdeal.Loss.quiet m g,
    fun m g _ => Cert.ReferenceIdeal.Loss.quiet m g,
    trivial, same_loss⟩

end Cert.Proof

end
